-- ==== Defs.lean ====
def Pre_Layout (m : (ℓ : Loc Cert.Layout.nD Cert.Layout.τ Cert.Layout.sig) → Buf (Elt Bits) ℓ) : Prop :=
  True

def Pre_LayoutIdeal (m : (ℓ : Loc Cert.LayoutIdeal.nD Cert.LayoutIdeal.τ Cert.LayoutIdeal.sig) → Buf (Elt Ideal) ℓ) : Prop :=
  True

def Pre_LayoutRefIdeal (m : (ℓ : Loc Cert.LayoutRefIdeal.nD Cert.LayoutRefIdeal.τ Cert.LayoutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftRefIdeal (m : (ℓ : Loc Cert.ShiftRefIdeal.nD Cert.ShiftRefIdeal.τ Cert.ShiftRefIdeal.sig) → Buf (Elt Ideal) ℓ) : Prop :=
  True

def Pre_RetS (m : (ℓ : Loc Cert.RetS.nD Cert.RetS.τ Cert.RetS.sig) → Buf (Elt Bits) ℓ) : Prop :=
  True

def Pre_RetSIdeal (m : (ℓ : Loc Cert.RetSIdeal.nD Cert.RetSIdeal.τ Cert.RetSIdeal.sig) → Buf (Elt Ideal) ℓ) : Prop :=
  True

def Pre_RetSIdeal_z_finite [hPre_z_finite : Cert.Pre_z_finite.Facts] (m : (ℓ : Loc Cert.RetSIdeal.nD Cert.RetSIdeal.τ Cert.RetSIdeal.sig) → Buf (Elt Ideal) ℓ) : Prop :=
  ∀ c : Dev Cert.RetSIdeal.nD,
    (Cert.Pre_z_finite.fn (F := Ideal) (m ((c.tc : Thread Cert.RetSIdeal.nD Cert.RetSIdeal.τ).loc Cert.RetSIdeal.main_arg0)) (m ((c.tc : Thread Cert.RetSIdeal.nD Cert.RetSIdeal.τ).loc Cert.RetSIdeal.main_arg1)) (m ((c.tc : Thread Cert.RetSIdeal.nD Cert.RetSIdeal.τ).loc Cert.RetSIdeal.main_arg2)) (m ((c.tc : Thread Cert.RetSIdeal.nD Cert.RetSIdeal.τ).loc Cert.RetSIdeal.main_arg3)) (m ((c.tc : Thread Cert.RetSIdeal.nD Cert.RetSIdeal.τ).loc Cert.RetSIdeal.main_arg4)) (m ((c.tc : Thread Cert.RetSIdeal.nD Cert.RetSIdeal.τ).loc Cert.RetSIdeal.main_arg5)) (m ((c.tc : Thread Cert.RetSIdeal.nD Cert.RetSIdeal.τ).loc Cert.RetSIdeal.main_arg6)) (m ((c.tc : Thread Cert.RetSIdeal.nD Cert.RetSIdeal.τ).loc Cert.RetSIdeal.main_arg7))) = (fun _ => 1#1)

def Pre_RetSRefIdeal (m : (ℓ : Loc Cert.RetSRefIdeal.nD Cert.RetSRefIdeal.τ Cert.RetSRefIdeal.sig) → Buf (Elt Ideal) ℓ) : Prop :=
  True

def Pre_RetSRefIdeal_z_finite [hPre_z_finite : Cert.Pre_z_finite.Facts] (m : (ℓ : Loc Cert.RetSRefIdeal.nD Cert.RetSRefIdeal.τ Cert.RetSRefIdeal.sig) → Buf (Elt Ideal) ℓ) : Prop :=
  ∀ c : Dev Cert.RetSRefIdeal.nD,
    (Cert.Pre_z_finite.fn (F := Ideal) (m ((c.tc : Thread Cert.RetSRefIdeal.nD Cert.RetSRefIdeal.τ).loc Cert.RetSRefIdeal.main_arg0)) (m ((c.tc : Thread Cert.RetSRefIdeal.nD Cert.RetSRefIdeal.τ).loc Cert.RetSRefIdeal.main_arg1)) (m ((c.tc : Thread Cert.RetSRefIdeal.nD Cert.RetSRefIdeal.τ).loc Cert.RetSRefIdeal.main_arg2)) (m ((c.tc : Thread Cert.RetSRefIdeal.nD Cert.RetSRefIdeal.τ).loc Cert.RetSRefIdeal.main_arg3)) (m ((c.tc : Thread Cert.RetSRefIdeal.nD Cert.RetSRefIdeal.τ).loc Cert.RetSRefIdeal.main_arg4)) (m ((c.tc : Thread Cert.RetSRefIdeal.nD Cert.RetSRefIdeal.τ).loc Cert.RetSRefIdeal.main_arg5)) (m ((c.tc : Thread Cert.RetSRefIdeal.nD Cert.RetSRefIdeal.τ).loc Cert.RetSRefIdeal.main_arg6)) (m ((c.tc : Thread Cert.RetSRefIdeal.nD Cert.RetSRefIdeal.τ).loc Cert.RetSRefIdeal.main_arg7))) = (fun _ => 1#1)

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_RetP (m : (ℓ : Loc Cert.RetP.nD Cert.RetP.τ Cert.RetP.sig) → Buf (Elt Bits) ℓ) : Prop :=
  True

def Pre_RetPIdeal (m : (ℓ : Loc Cert.RetPIdeal.nD Cert.RetPIdeal.τ Cert.RetPIdeal.sig) → Buf (Elt Ideal) ℓ) : Prop :=
  True

def quiescent_Layout [hLayout : Cert.Layout.Facts] : Prop :=
  ∀ (m : (ℓ : Loc Cert.Layout.nD Cert.Layout.τ Cert.Layout.sig) → Buf (Elt Bits) ℓ) (g : Dev Cert.Layout.nD → PrngReg), Pre_Layout m →
    θ_run (Cert.Layout.defs (F := Bits)) (onTc (τ := Cert.Layout.τ) (Cert.Layout.main (F := Bits))) ⟨m, fun _ => 0, g⟩ (fun r => (∀ c : Dev Cert.Layout.nD,
      r.2.mem ((c.tc : Thread Cert.Layout.nD Cert.Layout.τ).loc Cert.Layout.main_arg0) = m ((c.tc : Thread Cert.Layout.nD Cert.Layout.τ).loc Cert.Layout.main_arg0))
      ∧ r.2.sem = fun _ => 0)

def quiescent_LayoutIdeal [hLayoutIdeal : Cert.LayoutIdeal.Facts] : Prop :=
  ∀ (m : (ℓ : Loc Cert.LayoutIdeal.nD Cert.LayoutIdeal.τ Cert.LayoutIdeal.sig) → Buf (Elt Ideal) ℓ) (g : Dev Cert.LayoutIdeal.nD → PrngReg), Pre_LayoutIdeal m →
    θ_run (Cert.LayoutIdeal.defs (F := Ideal)) (onTc (τ := Cert.LayoutIdeal.τ) (Cert.LayoutIdeal.main (F := Ideal))) ⟨m, fun _ => 0, g⟩ (fun r => (∀ c : Dev Cert.LayoutIdeal.nD,
      r.2.mem ((c.tc : Thread Cert.LayoutIdeal.nD Cert.LayoutIdeal.τ).loc Cert.LayoutIdeal.main_arg0) = m ((c.tc : Thread Cert.LayoutIdeal.nD Cert.LayoutIdeal.τ).loc Cert.LayoutIdeal.main_arg0))
      ∧ r.2.sem = fun _ => 0)

def quiescent_LayoutRefIdeal [hLayoutRefIdeal : Cert.LayoutRefIdeal.Facts] : Prop :=
  ∀ (m : (ℓ : Loc Cert.LayoutRefIdeal.nD Cert.LayoutRefIdeal.τ Cert.LayoutRefIdeal.sig) → Buf (Elt Ideal) ℓ) (g : Dev Cert.LayoutRefIdeal.nD → PrngReg), Pre_LayoutRefIdeal m →
    θ_run (Cert.LayoutRefIdeal.defs (F := Ideal)) (onTc (τ := Cert.LayoutRefIdeal.τ) (Cert.LayoutRefIdeal.main (F := Ideal))) ⟨m, fun _ => 0, g⟩ (fun r => (∀ c : Dev Cert.LayoutRefIdeal.nD,
      r.2.mem ((c.tc : Thread Cert.LayoutRefIdeal.nD Cert.LayoutRefIdeal.τ).loc Cert.LayoutRefIdeal.main_arg0) = m ((c.tc : Thread Cert.LayoutRefIdeal.nD Cert.LayoutRefIdeal.τ).loc Cert.LayoutRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2)
      ∧ r.2.mem ((c.tc : Thread Cert.ShiftRefIdeal.nD Cert.ShiftRefIdeal.τ).loc Cert.ShiftRefIdeal.main_arg3) = m ((c.tc : Thread Cert.ShiftRefIdeal.nD Cert.ShiftRefIdeal.τ).loc Cert.ShiftRefIdeal.main_arg3))
      ∧ r.2.sem = fun _ => 0)

def quiescent_RetS [hRetS : Cert.RetS.Facts] : Prop :=
  ∀ (m : (ℓ : Loc Cert.RetS.nD Cert.RetS.τ Cert.RetS.sig) → Buf (Elt Bits) ℓ) (g : Dev Cert.RetS.nD → PrngReg), Pre_RetS m →
    θ_run (Cert.RetS.defs (F := Bits)) (onTc (τ := Cert.RetS.τ) (Cert.RetS.main (F := Bits))) ⟨m, fun _ => 0, g⟩ (fun r => (∀ c : Dev Cert.RetS.nD,
      r.2.mem ((c.tc : Thread Cert.RetS.nD Cert.RetS.τ).loc Cert.RetS.main_arg0) = m ((c.tc : Thread Cert.RetS.nD Cert.RetS.τ).loc Cert.RetS.main_arg0)
      ∧ r.2.mem ((c.tc : Thread Cert.RetS.nD Cert.RetS.τ).loc Cert.RetS.main_arg1) = m ((c.tc : Thread Cert.RetS.nD Cert.RetS.τ).loc Cert.RetS.main_arg1)
      ∧ r.2.mem ((c.tc : Thread Cert.RetS.nD Cert.RetS.τ).loc Cert.RetS.main_arg2) = m ((c.tc : Thread Cert.RetS.nD Cert.RetS.τ).loc Cert.RetS.main_arg2)
      ∧ r.2.mem ((c.tc : Thread Cert.RetS.nD Cert.RetS.τ).loc Cert.RetS.main_arg3) = m ((c.tc : Thread Cert.RetS.nD Cert.RetS.τ).loc Cert.RetS.main_arg3)
      ∧ r.2.mem ((c.tc : Thread Cert.RetS.nD Cert.RetS.τ).loc Cert.RetS.main_arg4) = m ((c.tc : Thread Cert.RetS.nD Cert.RetS.τ).loc Cert.RetS.main_arg4)
      ∧ r.2.mem ((c.tc : Thread Cert.RetS.nD Cert.RetS.τ).loc Cert.RetS.main_arg5) = m ((c.tc : Thread Cert.RetS.nD Cert.RetS.τ).loc Cert.RetS.main_arg5)
      ∧ r.2.mem ((c.tc : Thread Cert.RetS.nD Cert.RetS.τ).loc Cert.RetS.main_arg6) = m ((c.tc : Thread Cert.RetS.nD Cert.RetS.τ).loc Cert.RetS.main_arg6)
      ∧ r.2.mem ((c.tc : Thread Cert.RetS.nD Cert.RetS.τ).loc Cert.RetS.main_arg7) = m ((c.tc : Thread Cert.RetS.nD Cert.RetS.τ).loc Cert.RetS.main_arg7))
      ∧ r.2.sem = fun _ => 0)

def quiescent_RetSIdeal [hRetSIdeal : Cert.RetSIdeal.Facts] : Prop :=
  ∀ (m : (ℓ : Loc Cert.RetSIdeal.nD Cert.RetSIdeal.τ Cert.RetSIdeal.sig) → Buf (Elt Ideal) ℓ) (g : Dev Cert.RetSIdeal.nD → PrngReg), Pre_RetSIdeal m →
    θ_run (Cert.RetSIdeal.defs (F := Ideal)) (onTc (τ := Cert.RetSIdeal.τ) (Cert.RetSIdeal.main (F := Ideal))) ⟨m, fun _ => 0, g⟩ (fun r => (∀ c : Dev Cert.RetSIdeal.nD,
      r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
      ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
      ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
      ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3)
      ∧ r.2.mem ((c.tc : Thread Cert.RetSIdeal.nD Cert.RetSIdeal.τ).loc Cert.RetSIdeal.main_arg4) = m ((c.tc : Thread Cert.RetSIdeal.nD Cert.RetSIdeal.τ).loc Cert.RetSIdeal.main_arg4)
      ∧ r.2.mem ((c.tc : Thread Cert.RetSIdeal.nD Cert.RetSIdeal.τ).loc Cert.RetSIdeal.main_arg5) = m ((c.tc : Thread Cert.RetSIdeal.nD Cert.RetSIdeal.τ).loc Cert.RetSIdeal.main_arg5)
      ∧ r.2.mem ((c.tc : Thread Cert.RetSIdeal.nD Cert.RetSIdeal.τ).loc Cert.RetSIdeal.main_arg6) = m ((c.tc : Thread Cert.RetSIdeal.nD Cert.RetSIdeal.τ).loc Cert.RetSIdeal.main_arg6)
      ∧ r.2.mem ((c.tc : Thread Cert.RetSIdeal.nD Cert.RetSIdeal.τ).loc Cert.RetSIdeal.main_arg7) = m ((c.tc : Thread Cert.RetSIdeal.nD Cert.RetSIdeal.τ).loc Cert.RetSIdeal.main_arg7))
      ∧ r.2.sem = fun _ => 0)

def quiescent_RetSIdeal_pre_z_finite [hRetSIdeal : Cert.RetSIdeal.Facts] [hPre_z_finite : Cert.Pre_z_finite.Facts] : Prop :=
  ∀ (m : (ℓ : Loc Cert.RetSIdeal.nD Cert.RetSIdeal.τ Cert.RetSIdeal.sig) → Buf (Elt Ideal) ℓ) (g : Dev Cert.RetSIdeal.nD → PrngReg), Pre_RetSIdeal_z_finite m →
    θ_run (Cert.RetSIdeal.defs (F := Ideal)) (onTc (τ := Cert.RetSIdeal.τ) (Cert.RetSIdeal.main (F := Ideal))) ⟨m, fun _ => 0, g⟩ (fun r => (∀ c : Dev Cert.RetSIdeal.nD,
      r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
      ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
      ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
      ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3)
      ∧ r.2.mem ((c.tc : Thread Cert.RetSIdeal.nD Cert.RetSIdeal.τ).loc Cert.RetSIdeal.main_arg4) = m ((c.tc : Thread Cert.RetSIdeal.nD Cert.RetSIdeal.τ).loc Cert.RetSIdeal.main_arg4)
      ∧ r.2.mem ((c.tc : Thread Cert.RetSIdeal.nD Cert.RetSIdeal.τ).loc Cert.RetSIdeal.main_arg5) = m ((c.tc : Thread Cert.RetSIdeal.nD Cert.RetSIdeal.τ).loc Cert.RetSIdeal.main_arg5)
      ∧ r.2.mem ((c.tc : Thread Cert.RetSIdeal.nD Cert.RetSIdeal.τ).loc Cert.RetSIdeal.main_arg6) = m ((c.tc : Thread Cert.RetSIdeal.nD Cert.RetSIdeal.τ).loc Cert.RetSIdeal.main_arg6)
      ∧ r.2.mem ((c.tc : Thread Cert.RetSIdeal.nD Cert.RetSIdeal.τ).loc Cert.RetSIdeal.main_arg7) = m ((c.tc : Thread Cert.RetSIdeal.nD Cert.RetSIdeal.τ).loc Cert.RetSIdeal.main_arg7))
      ∧ r.2.sem = fun _ => 0)

def quiescent_RetSRefIdeal [hRetSRefIdeal : Cert.RetSRefIdeal.Facts] : Prop :=
  ∀ (m : (ℓ : Loc Cert.RetSRefIdeal.nD Cert.RetSRefIdeal.τ Cert.RetSRefIdeal.sig) → Buf (Elt Ideal) ℓ) (g : Dev Cert.RetSRefIdeal.nD → PrngReg), Pre_RetSRefIdeal m →
    θ_run (Cert.RetSRefIdeal.defs (F := Ideal)) (onTc (τ := Cert.RetSRefIdeal.τ) (Cert.RetSRefIdeal.main (F := Ideal))) ⟨m, fun _ => 0, g⟩ (fun r => (∀ c : Dev Cert.RetSRefIdeal.nD,
      r.2.mem ((c.tc : Thread Cert.RetSRefIdeal.nD Cert.RetSRefIdeal.τ).loc Cert.RetSRefIdeal.main_arg0) = m ((c.tc : Thread Cert.RetSRefIdeal.nD Cert.RetSRefIdeal.τ).loc Cert.RetSRefIdeal.main_arg0)
      ∧ r.2.mem ((c.tc : Thread Cert.RetSRefIdeal.nD Cert.RetSRefIdeal.τ).loc Cert.RetSRefIdeal.main_arg1) = m ((c.tc : Thread Cert.RetSRefIdeal.nD Cert.RetSRefIdeal.τ).loc Cert.RetSRefIdeal.main_arg1)
      ∧ r.2.mem ((c.tc : Thread Cert.RetSRefIdeal.nD Cert.RetSRefIdeal.τ).loc Cert.RetSRefIdeal.main_arg2) = m ((c.tc : Thread Cert.RetSRefIdeal.nD Cert.RetSRefIdeal.τ).loc Cert.RetSRefIdeal.main_arg2)
      ∧ r.2.mem ((c.tc : Thread Cert.RetSRefIdeal.nD Cert.RetSRefIdeal.τ).loc Cert.RetSRefIdeal.main_arg3) = m ((c.tc : Thread Cert.RetSRefIdeal.nD Cert.RetSRefIdeal.τ).loc Cert.RetSRefIdeal.main_arg3)
      ∧ r.2.mem ((c.tc : Thread Cert.RetSRefIdeal.nD Cert.RetSRefIdeal.τ).loc Cert.RetSRefIdeal.main_arg4) = m ((c.tc : Thread Cert.RetSRefIdeal.nD Cert.RetSRefIdeal.τ).loc Cert.RetSRefIdeal.main_arg4)
      ∧ r.2.mem ((c.tc : Thread Cert.RetSRefIdeal.nD Cert.RetSRefIdeal.τ).loc Cert.RetSRefIdeal.main_arg5) = m ((c.tc : Thread Cert.RetSRefIdeal.nD Cert.RetSRefIdeal.τ).loc Cert.RetSRefIdeal.main_arg5)
      ∧ r.2.mem ((c.tc : Thread Cert.RetSRefIdeal.nD Cert.RetSRefIdeal.τ).loc Cert.RetSRefIdeal.main_arg6) = m ((c.tc : Thread Cert.RetSRefIdeal.nD Cert.RetSRefIdeal.τ).loc Cert.RetSRefIdeal.main_arg6)
      ∧ r.2.mem ((c.tc : Thread Cert.RetSRefIdeal.nD Cert.RetSRefIdeal.τ).loc Cert.RetSRefIdeal.main_arg7) = m ((c.tc : Thread Cert.RetSRefIdeal.nD Cert.RetSRefIdeal.τ).loc Cert.RetSRefIdeal.main_arg7))
      ∧ r.2.sem = fun _ => 0)

def quiescent_RetSRefIdeal_pre_z_finite [hRetSRefIdeal : Cert.RetSRefIdeal.Facts] [hPre_z_finite : Cert.Pre_z_finite.Facts] : Prop :=
  ∀ (m : (ℓ : Loc Cert.RetSRefIdeal.nD Cert.RetSRefIdeal.τ Cert.RetSRefIdeal.sig) → Buf (Elt Ideal) ℓ) (g : Dev Cert.RetSRefIdeal.nD → PrngReg), Pre_RetSRefIdeal_z_finite m →
    θ_run (Cert.RetSRefIdeal.defs (F := Ideal)) (onTc (τ := Cert.RetSRefIdeal.τ) (Cert.RetSRefIdeal.main (F := Ideal))) ⟨m, fun _ => 0, g⟩ (fun r => (∀ c : Dev Cert.RetSRefIdeal.nD,
      r.2.mem ((c.tc : Thread Cert.RetSRefIdeal.nD Cert.RetSRefIdeal.τ).loc Cert.RetSRefIdeal.main_arg0) = m ((c.tc : Thread Cert.RetSRefIdeal.nD Cert.RetSRefIdeal.τ).loc Cert.RetSRefIdeal.main_arg0)
      ∧ r.2.mem ((c.tc : Thread Cert.RetSRefIdeal.nD Cert.RetSRefIdeal.τ).loc Cert.RetSRefIdeal.main_arg1) = m ((c.tc : Thread Cert.RetSRefIdeal.nD Cert.RetSRefIdeal.τ).loc Cert.RetSRefIdeal.main_arg1)
      ∧ r.2.mem ((c.tc : Thread Cert.RetSRefIdeal.nD Cert.RetSRefIdeal.τ).loc Cert.RetSRefIdeal.main_arg2) = m ((c.tc : Thread Cert.RetSRefIdeal.nD Cert.RetSRefIdeal.τ).loc Cert.RetSRefIdeal.main_arg2)
      ∧ r.2.mem ((c.tc : Thread Cert.RetSRefIdeal.nD Cert.RetSRefIdeal.τ).loc Cert.RetSRefIdeal.main_arg3) = m ((c.tc : Thread Cert.RetSRefIdeal.nD Cert.RetSRefIdeal.τ).loc Cert.RetSRefIdeal.main_arg3)
      ∧ r.2.mem ((c.tc : Thread Cert.RetSRefIdeal.nD Cert.RetSRefIdeal.τ).loc Cert.RetSRefIdeal.main_arg4) = m ((c.tc : Thread Cert.RetSRefIdeal.nD Cert.RetSRefIdeal.τ).loc Cert.RetSRefIdeal.main_arg4)
      ∧ r.2.mem ((c.tc : Thread Cert.RetSRefIdeal.nD Cert.RetSRefIdeal.τ).loc Cert.RetSRefIdeal.main_arg5) = m ((c.tc : Thread Cert.RetSRefIdeal.nD Cert.RetSRefIdeal.τ).loc Cert.RetSRefIdeal.main_arg5)
      ∧ r.2.mem ((c.tc : Thread Cert.RetSRefIdeal.nD Cert.RetSRefIdeal.τ).loc Cert.RetSRefIdeal.main_arg6) = m ((c.tc : Thread Cert.RetSRefIdeal.nD Cert.RetSRefIdeal.τ).loc Cert.RetSRefIdeal.main_arg6)
      ∧ r.2.mem ((c.tc : Thread Cert.RetSRefIdeal.nD Cert.RetSRefIdeal.τ).loc Cert.RetSRefIdeal.main_arg7) = m ((c.tc : Thread Cert.RetSRefIdeal.nD Cert.RetSRefIdeal.τ).loc Cert.RetSRefIdeal.main_arg7))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_RetP [hRetP : Cert.RetP.Facts] : Prop :=
  ∀ (m : (ℓ : Loc Cert.RetP.nD Cert.RetP.τ Cert.RetP.sig) → Buf (Elt Bits) ℓ) (g : Dev Cert.RetP.nD → PrngReg), Pre_RetP m →
    θ_run (Cert.RetP.defs (F := Bits)) (onTc (τ := Cert.RetP.τ) (Cert.RetP.main (F := Bits))) ⟨m, fun _ => 0, g⟩ (fun r => (∀ c : Dev Cert.RetP.nD,
      r.2.mem ((c.tc : Thread Cert.RetP.nD Cert.RetP.τ).loc Cert.RetP.main_arg0) = m ((c.tc : Thread Cert.RetP.nD Cert.RetP.τ).loc Cert.RetP.main_arg0)
      ∧ r.2.mem ((c.tc : Thread Cert.RetP.nD Cert.RetP.τ).loc Cert.RetP.main_arg1) = m ((c.tc : Thread Cert.RetP.nD Cert.RetP.τ).loc Cert.RetP.main_arg1)
      ∧ r.2.mem ((c.tc : Thread Cert.RetP.nD Cert.RetP.τ).loc Cert.RetP.main_arg2) = m ((c.tc : Thread Cert.RetP.nD Cert.RetP.τ).loc Cert.RetP.main_arg2)
      ∧ r.2.mem ((c.tc : Thread Cert.RetP.nD Cert.RetP.τ).loc Cert.RetP.main_arg3) = m ((c.tc : Thread Cert.RetP.nD Cert.RetP.τ).loc Cert.RetP.main_arg3)
      ∧ r.2.mem ((c.tc : Thread Cert.RetP.nD Cert.RetP.τ).loc Cert.RetP.main_arg4) = m ((c.tc : Thread Cert.RetP.nD Cert.RetP.τ).loc Cert.RetP.main_arg4)
      ∧ r.2.mem ((c.tc : Thread Cert.RetP.nD Cert.RetP.τ).loc Cert.RetP.main_arg5) = m ((c.tc : Thread Cert.RetP.nD Cert.RetP.τ).loc Cert.RetP.main_arg5)
      ∧ r.2.mem ((c.tc : Thread Cert.RetP.nD Cert.RetP.τ).loc Cert.RetP.main_arg6) = m ((c.tc : Thread Cert.RetP.nD Cert.RetP.τ).loc Cert.RetP.main_arg6)
      ∧ r.2.mem ((c.tc : Thread Cert.RetP.nD Cert.RetP.τ).loc Cert.RetP.main_arg7) = m ((c.tc : Thread Cert.RetP.nD Cert.RetP.τ).loc Cert.RetP.main_arg7))
      ∧ r.2.sem = fun _ => 0)

def quiescent_RetPIdeal [hRetPIdeal : Cert.RetPIdeal.Facts] : Prop :=
  ∀ (m : (ℓ : Loc Cert.RetPIdeal.nD Cert.RetPIdeal.τ Cert.RetPIdeal.sig) → Buf (Elt Ideal) ℓ) (g : Dev Cert.RetPIdeal.nD → PrngReg), Pre_RetPIdeal m →
    θ_run (Cert.RetPIdeal.defs (F := Ideal)) (onTc (τ := Cert.RetPIdeal.τ) (Cert.RetPIdeal.main (F := Ideal))) ⟨m, fun _ => 0, g⟩ (fun r => (∀ c : Dev Cert.RetPIdeal.nD,
      r.2.mem ((c.tc : Thread Cert.RetPIdeal.nD Cert.RetPIdeal.τ).loc Cert.RetPIdeal.main_arg0) = m ((c.tc : Thread Cert.RetPIdeal.nD Cert.RetPIdeal.τ).loc Cert.RetPIdeal.main_arg0)
      ∧ r.2.mem ((c.tc : Thread Cert.RetPIdeal.nD Cert.RetPIdeal.τ).loc Cert.RetPIdeal.main_arg1) = m ((c.tc : Thread Cert.RetPIdeal.nD Cert.RetPIdeal.τ).loc Cert.RetPIdeal.main_arg1)
      ∧ r.2.mem ((c.tc : Thread Cert.RetPIdeal.nD Cert.RetPIdeal.τ).loc Cert.RetPIdeal.main_arg2) = m ((c.tc : Thread Cert.RetPIdeal.nD Cert.RetPIdeal.τ).loc Cert.RetPIdeal.main_arg2)
      ∧ r.2.mem ((c.tc : Thread Cert.RetPIdeal.nD Cert.RetPIdeal.τ).loc Cert.RetPIdeal.main_arg3) = m ((c.tc : Thread Cert.RetPIdeal.nD Cert.RetPIdeal.τ).loc Cert.RetPIdeal.main_arg3)
      ∧ r.2.mem ((c.tc : Thread Cert.RetPIdeal.nD Cert.RetPIdeal.τ).loc Cert.RetPIdeal.main_arg4) = m ((c.tc : Thread Cert.RetPIdeal.nD Cert.RetPIdeal.τ).loc Cert.RetPIdeal.main_arg4)
      ∧ r.2.mem ((c.tc : Thread Cert.RetPIdeal.nD Cert.RetPIdeal.τ).loc Cert.RetPIdeal.main_arg5) = m ((c.tc : Thread Cert.RetPIdeal.nD Cert.RetPIdeal.τ).loc Cert.RetPIdeal.main_arg5)
      ∧ r.2.mem ((c.tc : Thread Cert.RetPIdeal.nD Cert.RetPIdeal.τ).loc Cert.RetPIdeal.main_arg6) = m ((c.tc : Thread Cert.RetPIdeal.nD Cert.RetPIdeal.τ).loc Cert.RetPIdeal.main_arg6)
      ∧ r.2.mem ((c.tc : Thread Cert.RetPIdeal.nD Cert.RetPIdeal.τ).loc Cert.RetPIdeal.main_arg7) = m ((c.tc : Thread Cert.RetPIdeal.nD Cert.RetPIdeal.τ).loc Cert.RetPIdeal.main_arg7))
      ∧ r.2.sem = fun _ => 0)

def preserves_Layout_LayoutIdeal : Prop :=
  True

def algebraic_LayoutIdeal_LayoutRefIdeal [hLayoutIdeal : Cert.LayoutIdeal.Facts] [hLayoutRefIdeal : Cert.LayoutRefIdeal.Facts] : Prop :=
  ∀ (m : (ℓ : Loc Cert.LayoutIdeal.nD Cert.LayoutIdeal.τ Cert.LayoutIdeal.sig) → Buf (Elt Ideal) ℓ) (g : Dev Cert.LayoutIdeal.nD → PrngReg)
    (m' : (ℓ : Loc Cert.LayoutRefIdeal.nD Cert.LayoutRefIdeal.τ Cert.LayoutRefIdeal.sig) → Buf (Elt Ideal) ℓ) (g' : Dev Cert.LayoutRefIdeal.nD → PrngReg), Pre_LayoutIdeal m →
    (∀ c : Dev Cert.LayoutIdeal.nD,
      m' ((c.tc : Thread Cert.LayoutRefIdeal.nD Cert.LayoutRefIdeal.τ).loc Cert.LayoutRefIdeal.main_arg0) = m ((c.tc : Thread Cert.LayoutIdeal.nD Cert.LayoutIdeal.τ).loc Cert.LayoutIdeal.main_arg0)) →
    ∃ (v0 : (c : Dev Cert.LayoutIdeal.nD) → Buf (Elt Ideal) ((c.tc : Thread Cert.LayoutIdeal.nD Cert.LayoutIdeal.τ).loc Cert.LayoutIdeal.main_v9)),
      θ_run (Cert.LayoutIdeal.defs (F := Ideal)) (onTc (τ := Cert.LayoutIdeal.τ) (Cert.LayoutIdeal.main (F := Ideal))) ⟨m, fun _ => 0, g⟩ (fun r => ∀ c : Dev Cert.LayoutIdeal.nD,
          r.2.mem ((c.tc : Thread Cert.LayoutIdeal.nD Cert.LayoutIdeal.τ).loc Cert.LayoutIdeal.main_v9) = v0 c
          ∧ r.2.mem ((c.tc : Thread Cert.LayoutIdeal.nD Cert.LayoutIdeal.τ).loc Cert.LayoutIdeal.main_arg0) = m ((c.tc : Thread Cert.LayoutIdeal.nD Cert.LayoutIdeal.τ).loc Cert.LayoutIdeal.main_arg0))
      ∧ θ_run (Cert.LayoutRefIdeal.defs (F := Ideal)) (onTc (τ := Cert.LayoutRefIdeal.τ) (Cert.LayoutRefIdeal.main (F := Ideal))) ⟨m', fun _ => 0, g'⟩ (fun r => ∀ c : Dev Cert.LayoutRefIdeal.nD,
          r.2.mem ((c.tc : Thread Cert.LayoutRefIdeal.nD Cert.LayoutRefIdeal.τ).loc Cert.LayoutRefIdeal.main_v12) = v0 c
          ∧ r.2.mem ((c.tc : Thread Cert.LayoutRefIdeal.nD Cert.LayoutRefIdeal.τ).loc Cert.LayoutRefIdeal.main_arg0) = m' ((c.tc : Thread Cert.LayoutRefIdeal.nD Cert.LayoutRefIdeal.τ).loc Cert.LayoutRefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3_0)) (v1 : (c : Dev Cert.OutProjIdeal.nD) → Buf (Elt Ideal) ((c.tc : Thread Cert.OutProjIdeal.nD Cert.OutProjIdeal.τ).loc Cert.OutProjIdeal.main_v3_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3_0) = v0 c
          ∧ r.2.mem ((c.tc : Thread Cert.OutProjIdeal.nD Cert.OutProjIdeal.τ).loc Cert.OutProjIdeal.main_v3_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_v21) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Shift_ShiftIdeal : Prop :=
  True

def algebraic_ShiftIdeal_ShiftRefIdeal [hShiftIdeal : Cert.ShiftIdeal.Facts] [hShiftRefIdeal : Cert.ShiftRefIdeal.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)
      ∧ m' ((c.tc : Thread Cert.ShiftRefIdeal.nD Cert.ShiftRefIdeal.τ).loc Cert.ShiftRefIdeal.main_arg3) = m ((c.tc : Thread Cert.ShiftIdeal.nD Cert.ShiftIdeal.τ).loc Cert.ShiftIdeal.main_arg3)) →
    ∃ (v0 : (c : Dev Cert.ShiftIdeal.nD) → Buf (Elt Ideal) ((c.tc : Thread Cert.ShiftIdeal.nD Cert.ShiftIdeal.τ).loc Cert.ShiftIdeal.main_v11)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v11) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v19) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2)
          ∧ r.2.mem ((c.tc : Thread Cert.ShiftRefIdeal.nD Cert.ShiftRefIdeal.τ).loc Cert.ShiftRefIdeal.main_arg3) = m' ((c.tc : Thread Cert.ShiftRefIdeal.nD Cert.ShiftRefIdeal.τ).loc Cert.ShiftRefIdeal.main_arg3))

def preserves_RetS_RetSIdeal : Prop :=
  True

def algebraic_RetSIdeal_RetSRefIdeal_pre_z_finite [hRetSIdeal : Cert.RetSIdeal.Facts] [hRetSRefIdeal : Cert.RetSRefIdeal.Facts] [hPre_z_finite : Cert.Pre_z_finite.Facts] : Prop :=
  ∀ (m : (ℓ : Loc Cert.RetSIdeal.nD Cert.RetSIdeal.τ Cert.RetSIdeal.sig) → Buf (Elt Ideal) ℓ) (g : Dev Cert.RetSIdeal.nD → PrngReg)
    (m' : (ℓ : Loc Cert.RetSRefIdeal.nD Cert.RetSRefIdeal.τ Cert.RetSRefIdeal.sig) → Buf (Elt Ideal) ℓ) (g' : Dev Cert.RetSRefIdeal.nD → PrngReg), Pre_RetSIdeal_z_finite m →
    (∀ c : Dev Cert.RetSIdeal.nD,
      m' ((c.tc : Thread Cert.RetSRefIdeal.nD Cert.RetSRefIdeal.τ).loc Cert.RetSRefIdeal.main_arg0) = m ((c.tc : Thread Cert.RetSIdeal.nD Cert.RetSIdeal.τ).loc Cert.RetSIdeal.main_arg0)
      ∧ m' ((c.tc : Thread Cert.RetSRefIdeal.nD Cert.RetSRefIdeal.τ).loc Cert.RetSRefIdeal.main_arg1) = m ((c.tc : Thread Cert.RetSIdeal.nD Cert.RetSIdeal.τ).loc Cert.RetSIdeal.main_arg1)
      ∧ m' ((c.tc : Thread Cert.RetSRefIdeal.nD Cert.RetSRefIdeal.τ).loc Cert.RetSRefIdeal.main_arg2) = m ((c.tc : Thread Cert.RetSIdeal.nD Cert.RetSIdeal.τ).loc Cert.RetSIdeal.main_arg2)
      ∧ m' ((c.tc : Thread Cert.RetSRefIdeal.nD Cert.RetSRefIdeal.τ).loc Cert.RetSRefIdeal.main_arg3) = m ((c.tc : Thread Cert.RetSIdeal.nD Cert.RetSIdeal.τ).loc Cert.RetSIdeal.main_arg3)
      ∧ m' ((c.tc : Thread Cert.RetSRefIdeal.nD Cert.RetSRefIdeal.τ).loc Cert.RetSRefIdeal.main_arg4) = m ((c.tc : Thread Cert.RetSIdeal.nD Cert.RetSIdeal.τ).loc Cert.RetSIdeal.main_arg4)
      ∧ m' ((c.tc : Thread Cert.RetSRefIdeal.nD Cert.RetSRefIdeal.τ).loc Cert.RetSRefIdeal.main_arg5) = m ((c.tc : Thread Cert.RetSIdeal.nD Cert.RetSIdeal.τ).loc Cert.RetSIdeal.main_arg5)
      ∧ m' ((c.tc : Thread Cert.RetSRefIdeal.nD Cert.RetSRefIdeal.τ).loc Cert.RetSRefIdeal.main_arg6) = m ((c.tc : Thread Cert.RetSIdeal.nD Cert.RetSIdeal.τ).loc Cert.RetSIdeal.main_arg6)
      ∧ m' ((c.tc : Thread Cert.RetSRefIdeal.nD Cert.RetSRefIdeal.τ).loc Cert.RetSRefIdeal.main_arg7) = m ((c.tc : Thread Cert.RetSIdeal.nD Cert.RetSIdeal.τ).loc Cert.RetSIdeal.main_arg7)) →
    ∃ (v0 : (c : Dev Cert.RetSIdeal.nD) → Buf (Elt Ideal) ((c.tc : Thread Cert.RetSIdeal.nD Cert.RetSIdeal.τ).loc Cert.RetSIdeal.main_v38_0)) (v1 : (c : Dev Cert.RetSIdeal.nD) → Buf (Elt Ideal) ((c.tc : Thread Cert.RetSIdeal.nD Cert.RetSIdeal.τ).loc Cert.RetSIdeal.main_v38_1)),
      θ_run (Cert.RetSIdeal.defs (F := Ideal)) (onTc (τ := Cert.RetSIdeal.τ) (Cert.RetSIdeal.main (F := Ideal))) ⟨m, fun _ => 0, g⟩ (fun r => ∀ c : Dev Cert.RetSIdeal.nD,
          r.2.mem ((c.tc : Thread Cert.RetSIdeal.nD Cert.RetSIdeal.τ).loc Cert.RetSIdeal.main_v38_0) = v0 c
          ∧ r.2.mem ((c.tc : Thread Cert.RetSIdeal.nD Cert.RetSIdeal.τ).loc Cert.RetSIdeal.main_v38_1) = v1 c
          ∧ r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
          ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
          ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
          ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3)
          ∧ r.2.mem ((c.tc : Thread Cert.RetSIdeal.nD Cert.RetSIdeal.τ).loc Cert.RetSIdeal.main_arg4) = m ((c.tc : Thread Cert.RetSIdeal.nD Cert.RetSIdeal.τ).loc Cert.RetSIdeal.main_arg4)
          ∧ r.2.mem ((c.tc : Thread Cert.RetSIdeal.nD Cert.RetSIdeal.τ).loc Cert.RetSIdeal.main_arg5) = m ((c.tc : Thread Cert.RetSIdeal.nD Cert.RetSIdeal.τ).loc Cert.RetSIdeal.main_arg5)
          ∧ r.2.mem ((c.tc : Thread Cert.RetSIdeal.nD Cert.RetSIdeal.τ).loc Cert.RetSIdeal.main_arg6) = m ((c.tc : Thread Cert.RetSIdeal.nD Cert.RetSIdeal.τ).loc Cert.RetSIdeal.main_arg6)
          ∧ r.2.mem ((c.tc : Thread Cert.RetSIdeal.nD Cert.RetSIdeal.τ).loc Cert.RetSIdeal.main_arg7) = m ((c.tc : Thread Cert.RetSIdeal.nD Cert.RetSIdeal.τ).loc Cert.RetSIdeal.main_arg7))
      ∧ θ_run (Cert.RetSRefIdeal.defs (F := Ideal)) (onTc (τ := Cert.RetSRefIdeal.τ) (Cert.RetSRefIdeal.main (F := Ideal))) ⟨m', fun _ => 0, g'⟩ (fun r => ∀ c : Dev Cert.RetSRefIdeal.nD,
          r.2.mem ((c.tc : Thread Cert.RetSRefIdeal.nD Cert.RetSRefIdeal.τ).loc Cert.RetSRefIdeal.main_v89) = v0 c
          ∧ r.2.mem ((c.tc : Thread Cert.RetSRefIdeal.nD Cert.RetSRefIdeal.τ).loc Cert.RetSRefIdeal.main_v73) = v1 c
          ∧ r.2.mem ((c.tc : Thread Cert.RetSRefIdeal.nD Cert.RetSRefIdeal.τ).loc Cert.RetSRefIdeal.main_arg0) = m' ((c.tc : Thread Cert.RetSRefIdeal.nD Cert.RetSRefIdeal.τ).loc Cert.RetSRefIdeal.main_arg0)
          ∧ r.2.mem ((c.tc : Thread Cert.RetSRefIdeal.nD Cert.RetSRefIdeal.τ).loc Cert.RetSRefIdeal.main_arg1) = m' ((c.tc : Thread Cert.RetSRefIdeal.nD Cert.RetSRefIdeal.τ).loc Cert.RetSRefIdeal.main_arg1)
          ∧ r.2.mem ((c.tc : Thread Cert.RetSRefIdeal.nD Cert.RetSRefIdeal.τ).loc Cert.RetSRefIdeal.main_arg2) = m' ((c.tc : Thread Cert.RetSRefIdeal.nD Cert.RetSRefIdeal.τ).loc Cert.RetSRefIdeal.main_arg2)
          ∧ r.2.mem ((c.tc : Thread Cert.RetSRefIdeal.nD Cert.RetSRefIdeal.τ).loc Cert.RetSRefIdeal.main_arg3) = m' ((c.tc : Thread Cert.RetSRefIdeal.nD Cert.RetSRefIdeal.τ).loc Cert.RetSRefIdeal.main_arg3)
          ∧ r.2.mem ((c.tc : Thread Cert.RetSRefIdeal.nD Cert.RetSRefIdeal.τ).loc Cert.RetSRefIdeal.main_arg4) = m' ((c.tc : Thread Cert.RetSRefIdeal.nD Cert.RetSRefIdeal.τ).loc Cert.RetSRefIdeal.main_arg4)
          ∧ r.2.mem ((c.tc : Thread Cert.RetSRefIdeal.nD Cert.RetSRefIdeal.τ).loc Cert.RetSRefIdeal.main_arg5) = m' ((c.tc : Thread Cert.RetSRefIdeal.nD Cert.RetSRefIdeal.τ).loc Cert.RetSRefIdeal.main_arg5)
          ∧ r.2.mem ((c.tc : Thread Cert.RetSRefIdeal.nD Cert.RetSRefIdeal.τ).loc Cert.RetSRefIdeal.main_arg6) = m' ((c.tc : Thread Cert.RetSRefIdeal.nD Cert.RetSRefIdeal.τ).loc Cert.RetSRefIdeal.main_arg6)
          ∧ r.2.mem ((c.tc : Thread Cert.RetSRefIdeal.nD Cert.RetSRefIdeal.τ).loc Cert.RetSRefIdeal.main_arg7) = m' ((c.tc : Thread Cert.RetSRefIdeal.nD Cert.RetSRefIdeal.τ).loc Cert.RetSRefIdeal.main_arg7))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v1)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v1) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v23) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_RetP_RetPIdeal : Prop :=
  True

def Claim : Prop :=
  ∃ (hLayout : Cert.Layout.Facts) (hLayoutIdeal : Cert.LayoutIdeal.Facts) (hLayoutRefIdeal : Cert.LayoutRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hShift : Cert.Shift.Facts) (hShiftIdeal : Cert.ShiftIdeal.Facts) (hShiftRefIdeal : Cert.ShiftRefIdeal.Facts) (hRetS : Cert.RetS.Facts) (hRetSIdeal : Cert.RetSIdeal.Facts) (hRetSRefIdeal : Cert.RetSRefIdeal.Facts) (hFfnS : Cert.FfnS.Facts) (hFfnSIdeal : Cert.FfnSIdeal.Facts) (hFfnSRefIdeal : Cert.FfnSRefIdeal.Facts) (hRetP : Cert.RetP.Facts) (hRetPIdeal : Cert.RetPIdeal.Facts) (hPre_z_finite : Cert.Pre_z_finite.Facts),
    quiescent_Layout (hLayout := hLayout)
    ∧ quiescent_LayoutIdeal (hLayoutIdeal := hLayoutIdeal)
    ∧ quiescent_LayoutRefIdeal (hLayoutRefIdeal := hLayoutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Shift (hShift := hShift)
    ∧ quiescent_ShiftIdeal (hShiftIdeal := hShiftIdeal)
    ∧ quiescent_ShiftRefIdeal (hShiftRefIdeal := hShiftRefIdeal)
    ∧ quiescent_RetS (hRetS := hRetS)
    ∧ quiescent_RetSIdeal (hRetSIdeal := hRetSIdeal)
    ∧ quiescent_RetSIdeal_pre_z_finite (hRetSIdeal := hRetSIdeal) (hPre_z_finite := hPre_z_finite)
    ∧ quiescent_RetSRefIdeal (hRetSRefIdeal := hRetSRefIdeal)
    ∧ quiescent_RetSRefIdeal_pre_z_finite (hRetSRefIdeal := hRetSRefIdeal) (hPre_z_finite := hPre_z_finite)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_RetP (hRetP := hRetP)
    ∧ quiescent_RetPIdeal (hRetPIdeal := hRetPIdeal)
    ∧ preserves_Layout_LayoutIdeal
    ∧ algebraic_LayoutIdeal_LayoutRefIdeal (hLayoutIdeal := hLayoutIdeal) (hLayoutRefIdeal := hLayoutRefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Shift_ShiftIdeal
    ∧ algebraic_ShiftIdeal_ShiftRefIdeal (hShiftIdeal := hShiftIdeal) (hShiftRefIdeal := hShiftRefIdeal)
    ∧ preserves_RetS_RetSIdeal
    ∧ algebraic_RetSIdeal_RetSRefIdeal_pre_z_finite (hRetSIdeal := hRetSIdeal) (hRetSRefIdeal := hRetSRefIdeal) (hPre_z_finite := hPre_z_finite)
    ∧ preserves_FfnS_FfnSIdeal
    ∧ algebraic_FfnSIdeal_FfnSRefIdeal (hFfnSIdeal := hFfnSIdeal) (hFfnSRefIdeal := hFfnSRefIdeal)
    ∧ preserves_RetP_RetPIdeal
-- ==== Pre_z_finite.lean ====
abbrev S528x4096 : Shape := ⟨2, ![528, 4096]⟩
abbrev S136x128 : Shape := ⟨2, ![136, 128]⟩
abbrev S4x8x8 : Shape := ⟨3, ![4, 8, 8]⟩
abbrev S4x8 : Shape := ⟨2, ![4, 8]⟩
abbrev S4 : Shape := ⟨1, ![4]⟩
abbrev S1x128x4x256x256 : Shape := ⟨5, ![1, 128, 4, 256, 256]⟩
abbrev S512x4096 : Shape := ⟨2, ![512, 4096]⟩
abbrev S_ : Shape := ⟨0, ![]⟩

class Facts : Prop where
  slices_S528x4096_S512x4096_0_0 : S528x4096.Slices ![0, 0] S512x4096
  bcast_S_S512x4096 : S_.BroadcastsInDim S512x4096 (![] : Fin 0 → Fin S512x4096.rank)

variable [Facts]

def fn {F : FTy → Type} [FloatOps F] (main_arg0 : FVec F S528x4096 .f32) (main_arg1 : FVec F S136x128 .f32) (main_arg2 : FVec F S136x128 .f32) (main_arg3 : FVec F S4x8x8 .f32) (main_arg4 : FVec F S4x8 .f32) (main_arg5 : FVec F S4x8 .f32) (main_arg6 : FVec F S4 .f32) (main_arg7 : FVec F S1x128x4x256x256 .f32) : IVec S512x4096 1 :=
  let main_v0 : FVec F S512x4096 .f32 := (extractStridedSlice S512x4096 ![0, 0] · slices_S528x4096_S512x4096_0_0) main_arg0
  let main_v1 : FVec F S512x4096 .f32 := subf main_v0 main_v0
  let main_cst : FVec F S_ .f32 := constant S_ .f32 0x00000000#32
  let main_v2 : FVec F S512x4096 .f32 := broadcastInDim S512x4096 ![] bcast_S_S512x4096 main_cst
  let main_v3 : IVec S512x4096 1 := cmpf .oeq main_v1 main_v2
  main_v3
-- ==== Layout.lean ====
abbrev S1x2048x7456 : Shape := ⟨3, ![1, 2048, 7456]⟩
abbrev S512 : Shape := ⟨1, ![512]⟩
abbrev S2048x7456 : Shape := ⟨2, ![2048, 7456]⟩
abbrev S7456x2048 : Shape := ⟨2, ![7456, 2048]⟩
abbrev S512x1 : Shape := ⟨2, ![512, 1]⟩
abbrev S1x512 : Shape := ⟨2, ![1, 512]⟩
abbrev S512x512 : Shape := ⟨2, ![512, 512]⟩
abbrev S2048x7680 : Shape := ⟨2, ![2048, 7680]⟩
abbrev S512x2048 : Shape := ⟨2, ![512, 2048]⟩
abbrev S2048x512 : Shape := ⟨2, ![2048, 512]⟩

abbrev nBuf : Space → Nat
  | .hbm => 12
  | .vmem => 5
  | .smem => 0
  | _ => 0

abbrev bufTy : (tb : Table) → Fin (tcTables nBuf tb) → BufTy
  | .hbm, ⟨0, _⟩ => ⟨S1x2048x7456, .f32⟩
  | .hbm, ⟨1, _⟩ => ⟨S512, .i32⟩
  | .hbm, ⟨2, _⟩ => ⟨S2048x7456, .f32⟩
  | .hbm, ⟨3, _⟩ => ⟨S7456x2048, .f32⟩
  | .hbm, ⟨4, _⟩ => ⟨S512x1, .i32⟩
  | .hbm, ⟨5, _⟩ => ⟨S512, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .bf16⟩
  | .hbm, ⟨11, _⟩ => ⟨S2048x7680, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S2048x512, .bf16⟩
  | .local _ .vmem, ⟨4, _⟩ => ⟨S2048x512, .bf16⟩
  | _, _ => ⟨S1x2048x7456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![15], ![false]⟩

def k0_mult1 (i : grid0.Coords) : BitVec 32 :=
  let arg0 : BitVec 32 := BitVec.ofNat 32 (i 0).val
  let c8_i32 : BitVec 32 := 8#32
  let v0 : BitVec 1 := Scalar.cmpi .slt arg0 c8_i32
  let c3360_i32 : BitVec 32 := 3360#32
  let c512_i32 : BitVec 32 := 512#32
  let v1 : BitVec 32 := Scalar.muli c512_i32 arg0
  let v2 : BitVec 32 := Scalar.addi c3360_i32 v1
  let c512_i32_1 : BitVec 32 := 512#32
  let c8_i32_0 : BitVec 32 := 8#32
  let v3 : BitVec 32 := Scalar.subi arg0 c8_i32_0
  let v4 : BitVec 32 := Scalar.muli c512_i32_1 v3
  let v5 : BitVec 32 := Scalar.select v0 v2 v4
  v5
def k0_cond1 (i : grid0.Coords) : BitVec 1 :=
  let arg0 : BitVec 32 := BitVec.ofNat 32 (i 0).val
  let c4_i32 : BitVec 32 := 4#32
  let v0 : BitVec 1 := Scalar.cmpi .sge arg0 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c4_i32_0 : BitVec 32 := 4#32
  let v3 : BitVec 1 := Scalar.cmpi .slt arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 1 := Scalar.cmpi .slt arg0 c8_i32
  let c512_i32 : BitVec 32 := 512#32
  let v1 : BitVec 32 := Scalar.muli c512_i32 arg0
  let c3360_i32 : BitVec 32 := 3360#32
  let v2 : BitVec 32 := Scalar.addi c3360_i32 v1
  let c8_i32_0 : BitVec 32 := 8#32
  let v3 : BitVec 32 := Scalar.subi arg0 c8_i32_0
  let c512_i32_1 : BitVec 32 := 512#32
  let v4 : BitVec 32 := Scalar.muli c512_i32_1 v3
  let v5 : BitVec 32 := Scalar.select v0 v2 v4
  let v6 : BitVec 32 := v5
  let c0_i32 : BitVec 32 := 0#32
  let c0_i32_2 : BitVec 32 := 0#32
  ![v6.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LayoutRefIdeal.lean ====
abbrev S1x2048x7456 : Shape := ⟨3, ![1, 2048, 7456]⟩
abbrev S2048x7456 : Shape := ⟨2, ![2048, 7456]⟩
abbrev S2048x1024 : Shape := ⟨2, ![2048, 1024]⟩
abbrev S2048x2048 : Shape := ⟨2, ![2048, 2048]⟩
abbrev S2048x3584 : Shape := ⟨2, ![2048, 3584]⟩
abbrev S2048x4x128x2 : Shape := ⟨4, ![2048, 4, 128, 2]⟩
abbrev S2048x4x2x128 : Shape := ⟨4, ![2048, 4, 2, 128]⟩
abbrev S2048x7680 : Shape := ⟨2, ![2048, 7680]⟩

abbrev nBuf : Space → Nat
  | .hbm => 14
  | .vmem => 0
  | .smem => 0
  | _ => 0

abbrev bufTy : (tb : Table) → Fin (tcTables nBuf tb) → BufTy
  | .hbm, ⟨0, _⟩ => ⟨S1x2048x7456, .f32⟩
  | .hbm, ⟨1, _⟩ => ⟨S2048x7456, .f32⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x3584, .f32⟩
  | .hbm, ⟨6, _⟩ => ⟨S2048x4x128x2, .f32⟩
  | .hbm, ⟨7, _⟩ => ⟨S2048x4x2x128, .f32⟩
  | .hbm, ⟨8, _⟩ => ⟨S2048x1024, .f32⟩
  | .hbm, ⟨9, _⟩ => ⟨S2048x4x128x2, .f32⟩
  | .hbm, ⟨10, _⟩ => ⟨S2048x4x2x128, .f32⟩
  | .hbm, ⟨11, _⟩ => ⟨S2048x1024, .f32⟩
  | .hbm, ⟨12, _⟩ => ⟨S2048x7680, .f32⟩
  | .hbm, ⟨13, _⟩ => ⟨S2048x7680, .bf16⟩
  | _, _ => ⟨S1x2048x7456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S128x2048 : Shape := ⟨2, ![128, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | .local _ .vmem, ⟨13, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c128_i32 : BitVec 32 := 128#32
  let v25 : BitVec 32 := Scalar.muli arg1 c128_i32
  v25
def k0_off1 (i : grid0.Coords) : Fin 2 → Nat :=
  let arg1 : BitVec 32 := BitVec.ofNat 32 (i 1).val
  let c128_i32 : BitVec 32 := 128#32
  let v25 : BitVec 32 := Scalar.muli arg1 c128_i32
  let v26 : BitVec 32 := v25
  let v27 : Index := Scalar.indexCast v26
  let c0_16 : Index := 0#32
  ![v27.toNat, 0]
def k0_cond3 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S2048x5632, .f32⟩
  | .hbm, ⟨20, _⟩ => ⟨S8192x5632, .f32⟩
  | .hbm, ⟨21, _⟩ => ⟨S8192x5632, .f32⟩
  | .hbm, ⟨22, _⟩ => ⟨S5632x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== InProj.lean ====
abbrev S4x2048x2048 : Shape := ⟨3, ![4, 2048, 2048]⟩
abbrev S1x2048 : Shape := ⟨2, ![1, 2048]⟩
abbrev S2048x7680 : Shape := ⟨2, ![2048, 7680]⟩
abbrev S128x128 : Shape := ⟨2, ![128, 128]⟩
abbrev S8192x2048 : Shape := ⟨2, ![8192, 2048]⟩
abbrev S2048 : Shape := ⟨1, ![2048]⟩
abbrev S8192x7680 : Shape := ⟨2, ![8192, 7680]⟩
abbrev S1024x2048 : Shape := ⟨2, ![1024, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S2048x7680, .bf16⟩
  | .hbm, ⟨3, _⟩ => ⟨S128x128, .bf16⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x7680, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S128x128, .bf16⟩
  | .local _ .vmem, ⟨6, _⟩ => ⟨S1024x1536, .f32⟩
  | .local _ .vmem, ⟨7, _⟩ => ⟨S1024x1536, .f32⟩
  | .local _ .vmem, ⟨8, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S4x2048x2048 : Shape := ⟨3, ![4, 2048, 2048]⟩
abbrev S1x2048 : Shape := ⟨2, ![1, 2048]⟩
abbrev S2048x7680 : Shape := ⟨2, ![2048, 7680]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x7680 : Shape := ⟨3, ![4, 2048, 7680]⟩
abbrev S8192x7680 : Shape := ⟨2, ![8192, 7680]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S2048x7680, .bf16⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x7680, .f32⟩
  | .hbm, ⟨21, _⟩ => ⟨S4x2048x7680, .f32⟩
  | .hbm, ⟨22, _⟩ => ⟨S8192x7680, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S8192x1024 : Shape := ⟨2, ![8192, 1024]⟩
abbrev S2048x2048 : Shape := ⟨2, ![2048, 2048]⟩
abbrev S4x2048x2048 : Shape := ⟨3, ![4, 2048, 2048]⟩
abbrev S1x2048 : Shape := ⟨2, ![1, 2048]⟩
abbrev S8192x2048 : Shape := ⟨2, ![8192, 2048]⟩
abbrev S2048 : Shape := ⟨1, ![2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S4x2048x2048, .f32⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x1024 : Shape := ⟨2, ![8192, 1024]⟩
abbrev S2048x2048 : Shape := ⟨2, ![2048, 2048]⟩
abbrev S4x2048x2048 : Shape := ⟨3, ![4, 2048, 2048]⟩
abbrev S1x2048 : Shape := ⟨2, ![1, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S4x2048x2048, .f32⟩
  | .hbm, ⟨4, _⟩ => ⟨S1x2048, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S8192x2048, .f32⟩
  | .hbm, ⟨12, _⟩ => ⟨S2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Shift.lean ====
abbrev S128x4x2048 : Shape := ⟨3, ![128, 4, 2048]⟩
abbrev S16x2048 : Shape := ⟨2, ![16, 2048]⟩
abbrev S1x2048 : Shape := ⟨2, ![1, 2048]⟩
abbrev S1x2048x7456 : Shape := ⟨3, ![1, 2048, 7456]⟩
abbrev S2048x7456 : Shape := ⟨2, ![2048, 7456]⟩
abbrev S7456x2048 : Shape := ⟨2, ![7456, 2048]⟩
abbrev S4x128x2048 : Shape := ⟨3, ![4, 128, 2048]⟩
abbrev S512x2048 : Shape := ⟨2, ![512, 2048]⟩
abbrev S_ : Shape := ⟨0, ![]⟩
abbrev S112x2048 : Shape := ⟨2, ![112, 2048]⟩
abbrev S640x2048 : Shape := ⟨2, ![640, 2048]⟩
abbrev S2048 : Shape := ⟨1, ![2048]⟩
abbrev S3584x640 : Shape := ⟨2, ![3584, 640]⟩
abbrev S896x2048 : Shape := ⟨2, ![896, 2048]⟩
abbrev S896x640 : Shape := ⟨2, ![896, 640]⟩
abbrev S640 : Shape := ⟨1, ![640]⟩
abbrev S640x1 : Shape := ⟨2, ![640, 1]⟩
abbrev S3360x128 : Shape := ⟨2, ![3360, 128]⟩
abbrev S128x3360 : Shape := ⟨2, ![128, 3360]⟩
abbrev S1x128x3360 : Shape := ⟨3, ![1, 128, 3360]⟩

abbrev nBuf : Space → Nat
  | .hbm => 17
  | .vmem => 7
  | .smem => 0
  | _ => 0

abbrev bufTy : (tb : Table) → Fin (tcTables nBuf tb) → BufTy
  | .hbm, ⟨0, _⟩ => ⟨S128x4x2048, .f32⟩
  | .hbm, ⟨1, _⟩ => ⟨S16x2048, .f32⟩
  | .hbm, ⟨2, _⟩ => ⟨S1x2048, .f32⟩
  | .hbm, ⟨3, _⟩ => ⟨S1x2048x7456, .f32⟩
  | .hbm, ⟨4, _⟩ => ⟨S2048x7456, .f32⟩
  | .hbm, ⟨5, _⟩ => ⟨S7456x2048, .f32⟩
  | .hbm, ⟨6, _⟩ => ⟨S4x128x2048, .f32⟩
  | .hbm, ⟨7, _⟩ => ⟨S512x2048, .f32⟩
  | .hbm, ⟨8, _⟩ => ⟨S_, .f32⟩
  | .hbm, ⟨9, _⟩ => ⟨S112x2048, .f32⟩
  | .hbm, ⟨10, _⟩ => ⟨S640x2048, .f32⟩
  | .hbm, ⟨11, _⟩ => ⟨S2048, .f32⟩
  | .hbm, ⟨12, _⟩ => ⟨S1x2048, .f32⟩
  | .hbm, ⟨13, _⟩ => ⟨S3584x640, .f32⟩
  | .hbm, ⟨14, _⟩ => ⟨S3360x128, .f32⟩
  | .hbm, ⟨15, _⟩ => ⟨S128x3360, .f32⟩
  | .hbm, ⟨16, _⟩ => ⟨S1x128x3360, .f32⟩
  | .local _ .vmem, ⟨0, _⟩ => ⟨S896x2048, .f32⟩
  | .local _ .vmem, ⟨1, _⟩ => ⟨S896x2048, .f32⟩
  | .local _ .vmem, ⟨2, _⟩ => ⟨S640x2048, .f32⟩
  | .local _ .vmem, ⟨3, _⟩ => ⟨S1x2048, .f32⟩
  | .local _ .vmem, ⟨4, _⟩ => ⟨S896x640, .f32⟩
  | .local _ .vmem, ⟨5, _⟩ => ⟨S896x640, .f32⟩
  | .local _ .vmem, ⟨6, _⟩ => ⟨S640x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S896x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S896x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ShiftRefIdeal.lean ====
abbrev S128x4x2048 : Shape := ⟨3, ![128, 4, 2048]⟩
abbrev S16x2048 : Shape := ⟨2, ![16, 2048]⟩
abbrev S1x2048 : Shape := ⟨2, ![1, 2048]⟩
abbrev S1x2048x7456 : Shape := ⟨3, ![1, 2048, 7456]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x7456 : Shape := ⟨2, ![2048, 7456]⟩
abbrev S128x4x7456 : Shape := ⟨3, ![128, 4, 7456]⟩
abbrev S128x4x3360 : Shape := ⟨3, ![128, 4, 3360]⟩
abbrev S128x1x3360 : Shape := ⟨3, ![128, 1, 3360]⟩
abbrev S128x3360 : Shape := ⟨2, ![128, 3360]⟩
abbrev S1x128x3360 : Shape := ⟨3, ![1, 128, 3360]⟩

abbrev nBuf : Space → Nat
  | .hbm => 27
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S16x2048, .f32⟩
  | .hbm, ⟨2, _⟩ => ⟨S1x2048, .f32⟩
  | .hbm, ⟨3, _⟩ => ⟨S1x2048x7456, .f32⟩
  | .hbm, ⟨4, _⟩ => ⟨S2048, .f32⟩
  | .hbm, ⟨5, _⟩ => ⟨S128x4x2048, .f32⟩
  | .hbm, ⟨6, _⟩ => ⟨S_, .f32⟩
  | .hbm, ⟨7, _⟩ => ⟨S128x4, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S_, .f32⟩
  | .hbm, ⟨13, _⟩ => ⟨S128x4x1, .f32⟩
  | .hbm, ⟨14, _⟩ => ⟨S128x4x1, .f32⟩
  | .hbm, ⟨15, _⟩ => ⟨S128x4x1, .f32⟩
  | .hbm, ⟨16, _⟩ => ⟨S128x4x2048, .f32⟩
  | .hbm, ⟨17, _⟩ => ⟨S128x4x2048, .f32⟩
  | .hbm, ⟨18, _⟩ => ⟨S1x1x2048, .f32⟩
  | .hbm, ⟨19, _⟩ => ⟨S128x4x2048, .f32⟩
  | .hbm, ⟨20, _⟩ => ⟨S128x4x2048, .f32⟩
  | .hbm, ⟨21, _⟩ => ⟨S2048x7456, .f32⟩
  | .hbm, ⟨22, _⟩ => ⟨S128x4x7456, .f32⟩
  | .hbm, ⟨23, _⟩ => ⟨S128x4x3360, .f32⟩
  | .hbm, ⟨24, _⟩ => ⟨S128x1x3360, .f32⟩
  | .hbm, ⟨25, _⟩ => ⟨S128x3360, .f32⟩
  | .hbm, ⟨26, _⟩ => ⟨S1x128x3360, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== RetS.lean ====
abbrev S528x4096 : Shape := ⟨2, ![528, 4096]⟩
abbrev S136x128 : Shape := ⟨2, ![136, 128]⟩
abbrev S4x8x8 : Shape := ⟨3, ![4, 8, 8]⟩
abbrev S4x8 : Shape := ⟨2, ![4, 8]⟩
abbrev S4 : Shape := ⟨1, ![4]⟩
abbrev S1x128x4x256x256 : Shape := ⟨5, ![1, 128, 4, 256, 256]⟩
abbrev S256x256 : Shape := ⟨2, ![256, 256]⟩
abbrev S128x128 : Shape := ⟨2, ![128, 128]⟩
abbrev S8x128 : Shape := ⟨2, ![8, 128]⟩
abbrev S1x8x1x128 : Shape := ⟨4, ![1, 8, 1, 128]⟩
abbrev S8x8x1x128 : Shape := ⟨4, ![8, 8, 1, 128]⟩
abbrev S64x128 : Shape := ⟨2, ![64, 128]⟩
abbrev S192x128 : Shape := ⟨2, ![192, 128]⟩
abbrev S192x128x1 : Shape := ⟨3, ![192, 128, 1]⟩
abbrev S192x128x2 : Shape := ⟨3, ![192, 128, 2]⟩
abbrev S192x256 : Shape := ⟨2, ![192, 256]⟩
abbrev S4x8x1 : Shape := ⟨3, ![4, 8, 1]⟩
abbrev S4x1x1 : Shape := ⟨3, ![4, 1, 1]⟩
abbrev S4x1x256 : Shape := ⟨3, ![4, 1, 256]⟩
abbrev S128x4x256x256 : Shape := ⟨4, ![128, 4, 256, 256]⟩
abbrev S512x1024 : Shape := ⟨2, ![512, 1024]⟩
abbrev S32x1024 : Shape := ⟨2, ![32, 1024]⟩
abbrev S64x256 : Shape := ⟨2, ![64, 256]⟩
abbrev S8x4x256x256 : Shape := ⟨4, ![8, 4, 256, 256]⟩
abbrev S4x256x256 : Shape := ⟨3, ![4, 256, 256]⟩
abbrev S64x32 : Shape := ⟨2, ![64, 32]⟩
abbrev S64x1024 : Shape := ⟨2, ![64, 1024]⟩
abbrev S8x256 : Shape := ⟨2, ![8, 256]⟩
abbrev S1x1x256x256 : Shape := ⟨4, ![1, 1, 256, 256]⟩
abbrev S8x8 : Shape := ⟨2, ![8, 8]⟩
abbrev S1x8x8 : Shape := ⟨3, ![1, 8, 8]⟩
abbrev S1x8x1 : Shape := ⟨3, ![1, 8, 1]⟩
abbrev S8x1 : Shape := ⟨2, ![8, 1]⟩
abbrev S1x1x256 : Shape := ⟨3, ![1, 1, 256]⟩
abbrev S1x256 : Shape := ⟨2, ![1, 256]⟩
abbrev S8 : Shape := ⟨1, ![8]⟩
abbrev S8x1024 : Shape := ⟨2, ![8, 1024]⟩

abbrev nBuf : Space → Nat
  | .hbm => 49
  | .vmem => 22
  | .smem => 0
  | _ => 0

abbrev bufTy : (tb : Table) → Fin (tcTables nBuf tb) → BufTy
  | .hbm, ⟨0, _⟩ => ⟨S528x4096, .f32⟩
  | .hbm, ⟨1, _⟩ => ⟨S136x128, .f32⟩
  | .hbm, ⟨2, _⟩ => ⟨S136x128, .f32⟩
  | .hbm, ⟨3, _⟩ => ⟨S4x8x8, .f32⟩
  | .hbm, ⟨4, _⟩ => ⟨S4x8, .f32⟩
  | .hbm, ⟨5, _⟩ => ⟨S4x8, .f32⟩
  | .hbm, ⟨6, _⟩ => ⟨S4, .f32⟩
  | .hbm, ⟨7, _⟩ => ⟨S1x128x4x256x256, .f32⟩
  | .hbm, ⟨8, _⟩ => ⟨S256x256, .bf16⟩
  | .hbm, ⟨9, _⟩ => ⟨S128x128, .f32⟩
  | .hbm, ⟨10, _⟩ => ⟨S8x128, .f32⟩
  | .hbm, ⟨11, _⟩ => ⟨S1x8x1x128, .f32⟩
  | .hbm, ⟨12, _⟩ => ⟨S8x8x1x128, .f32⟩
  | .hbm, ⟨13, _⟩ => ⟨S64x128, .f32⟩
  | .hbm, ⟨14, _⟩ => ⟨S192x128, .f32⟩
  | .hbm, ⟨15, _⟩ => ⟨S128x128, .f32⟩
  | .hbm, ⟨16, _⟩ => ⟨S8x128, .f32⟩
  | .hbm, ⟨17, _⟩ => ⟨S1x8x1x128, .f32⟩
  | .hbm, ⟨18, _⟩ => ⟨S8x8x1x128, .f32⟩
  | .hbm, ⟨19, _⟩ => ⟨S64x128, .f32⟩
  | .hbm, ⟨20, _⟩ => ⟨S192x128, .f32⟩
  | .hbm, ⟨21, _⟩ => ⟨S192x128x1, .f32⟩
  | .hbm, ⟨22, _⟩ => ⟨S192x128x1, .f32⟩
  | .hbm, ⟨23, _⟩ => ⟨S192x128x2, .f32⟩
  | .hbm, ⟨24, _⟩ => ⟨S192x256, .f32⟩
  | .hbm, ⟨25, _⟩ => ⟨S128x128, .f32⟩
  | .hbm, ⟨26, _⟩ => ⟨S8x128, .f32⟩
  | .hbm, ⟨27, _⟩ => ⟨S1x8x1x128, .f32⟩
  | .hbm, ⟨28, _⟩ => ⟨S8x8x1x128, .f32⟩
  | .hbm, ⟨29, _⟩ => ⟨S64x128, .f32⟩
  | .hbm, ⟨30, _⟩ => ⟨S192x128, .f32⟩
  | .hbm, ⟨31, _⟩ => ⟨S192x128, .f32⟩
  | .hbm, ⟨32, _⟩ => ⟨S128x128, .f32⟩
  | .hbm, ⟨33, _⟩ => ⟨S8x128, .f32⟩
  | .hbm, ⟨34, _⟩ => ⟨S1x8x1x128, .f32⟩
  | .hbm, ⟨35, _⟩ => ⟨S8x8x1x128, .f32⟩
  | .hbm, ⟨36, _⟩ => ⟨S64x128, .f32⟩
  | .hbm, ⟨37, _⟩ => ⟨S192x128, .f32⟩
  | .hbm, ⟨38, _⟩ => ⟨S192x128x1, .f32⟩
  | .hbm, ⟨39, _⟩ => ⟨S192x128x1, .f32⟩
  | .hbm, ⟨40, _⟩ => ⟨S192x128x2, .f32⟩
  | .hbm, ⟨41, _⟩ => ⟨S192x256, .f32⟩
  | .hbm, ⟨42, _⟩ => ⟨S4x8x1, .f32⟩
  | .hbm, ⟨43, _⟩ => ⟨S4x8x1, .f32⟩
  | .hbm, ⟨44, _⟩ => ⟨S4x1x1, .f32⟩
  | .hbm, ⟨45, _⟩ => ⟨S4x1x256, .f32⟩
  | .hbm, ⟨46, _⟩ => ⟨S128x4x256x256, .f32⟩
  | .hbm, ⟨47, _⟩ => ⟨S512x1024, .bf16⟩
  | .hbm, ⟨48, _⟩ => ⟨S128x4x256x256, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S64x256, .f32⟩
  | .local _ .vmem, ⟨9, _⟩ => ⟨S64x256, .f32⟩
  | .local _ .vmem, ⟨10, _⟩ => ⟨S4x8x8, .f32⟩
  | .local _ .vmem, ⟨11, _⟩ => ⟨S4x8x1, .f32⟩
  | .local _ .vmem, ⟨12, _⟩ => ⟨S4x8x1, .f32⟩
  | .local _ .vmem, ⟨13, _⟩ => ⟨S4x1x256, .f32⟩
  | .local _ .vmem, ⟨14, _⟩ => ⟨S256x256, .bf16⟩
  | .local _ .vmem, ⟨15, _⟩ => ⟨S8x4x256x256, .f32⟩
  | .local _ .vmem, ⟨16, _⟩ => ⟨S8x4x256x256, .f32⟩
  | .local _ .vmem, ⟨17, _⟩ => ⟨S32x1024, .bf16⟩
  | .local _ .vmem, ⟨18, _⟩ => ⟨S32x1024, .bf16⟩
  | .local _ .vmem, ⟨19, _⟩ => ⟨S8x4x256x256, .f32⟩
  | .local _ .vmem, ⟨20, _⟩ => ⟨S8x4x256x256, .f32⟩
  | .local _ .vmem, ⟨21, _⟩ => ⟨S4x256x256, .f32⟩
  | _, _ => ⟨S528x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S8x4x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x4x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== RetSRefIdeal.lean ====
abbrev S528x4096 : Shape := ⟨2, ![528, 4096]⟩
abbrev S136x128 : Shape := ⟨2, ![136, 128]⟩
abbrev S4x8x8 : Shape := ⟨3, ![4, 8, 8]⟩
abbrev S4x8 : Shape := ⟨2, ![4, 8]⟩
abbrev S4 : Shape := ⟨1, ![4]⟩
abbrev S1x128x4x256x256 : Shape := ⟨5, ![1, 128, 4, 256, 256]⟩
abbrev S128x4x256x256 : Shape := ⟨4, ![128, 4, 256, 256]⟩
abbrev S4x128 : Shape := ⟨2, ![4, 128]⟩
abbrev S4x4x4 : Shape := ⟨3, ![4, 4, 4]⟩
abbrev S4x4 : Shape := ⟨2, ![4, 4]⟩
abbrev S512x4096 : Shape := ⟨2, ![512, 4096]⟩
abbrev S128x4x4096 : Shape := ⟨3, ![128, 4, 4096]⟩
abbrev S128x4x1024 : Shape := ⟨3, ![128, 4, 1024]⟩
abbrev S128x4x4x256 : Shape := ⟨4, ![128, 4, 4, 256]⟩
abbrev S1x4x1x128 : Shape := ⟨4, ![1, 4, 1, 128]⟩
abbrev S128x4x4x128 : Shape := ⟨4, ![128, 4, 4, 128]⟩
abbrev S128x4x4x128x1 : Shape := ⟨5, ![128, 4, 4, 128, 1]⟩
abbrev S128x4x4x128x2 : Shape := ⟨5, ![128, 4, 4, 128, 2]⟩
abbrev S_ : Shape := ⟨0, ![]⟩
abbrev S128x4x4x4 : Shape := ⟨4, ![128, 4, 4, 4]⟩
abbrev S1x4x4x4 : Shape := ⟨4, ![1, 4, 4, 4]⟩
abbrev S128x4x256x4 : Shape := ⟨4, ![128, 4, 256, 4]⟩
abbrev S1x4x4x1 : Shape := ⟨4, ![1, 4, 4, 1]⟩
abbrev S1x4x1x1 : Shape := ⟨4, ![1, 4, 1, 1]⟩
abbrev S128x4x4 : Shape := ⟨3, ![128, 4, 4]⟩
abbrev S128x4x4x1 : Shape := ⟨4, ![128, 4, 4, 1]⟩
abbrev S512x1024 : Shape := ⟨2, ![512, 1024]⟩

abbrev nBuf : Space → Nat
  | .hbm => 110
  | .vmem => 0
  | .smem => 0
  | _ => 0

abbrev bufTy : (tb : Table) → Fin (tcTables nBuf tb) → BufTy
  | .hbm, ⟨0, _⟩ => ⟨S528x4096, .f32⟩
  | .hbm, ⟨1, _⟩ => ⟨S136x128, .f32⟩
  | .hbm, ⟨2, _⟩ => ⟨S136x128, .f32⟩
  | .hbm, ⟨3, _⟩ => ⟨S4x8x8, .f32⟩
  | .hbm, ⟨4, _⟩ => ⟨S4x8, .f32⟩
  | .hbm, ⟨5, _⟩ => ⟨S4x8, .f32⟩
  | .hbm, ⟨6, _⟩ => ⟨S4, .f32⟩
  | .hbm, ⟨7, _⟩ => ⟨S1x128x4x256x256, .f32⟩
  | .hbm, ⟨8, _⟩ => ⟨S128x4x256x256, .f32⟩
  | .hbm, ⟨9, _⟩ => ⟨S4x128, .f32⟩
  | .hbm, ⟨10, _⟩ => ⟨S4x128, .f32⟩
  | .hbm, ⟨11, _⟩ => ⟨S4x4x4, .f32⟩
  | .hbm, ⟨12, _⟩ => ⟨S4x4, .f32⟩
  | .hbm, ⟨13, _⟩ => ⟨S4x4, .f32⟩
  | .hbm, ⟨14, _⟩ => ⟨S512x4096, .f32⟩
  | .hbm, ⟨15, _⟩ => ⟨S128x4x4096, .f32⟩
  | .hbm, ⟨16, _⟩ => ⟨S128x4x1024, .f32⟩
  | .hbm, ⟨17, _⟩ => ⟨S128x4x1024, .f32⟩
  | .hbm, ⟨18, _⟩ => ⟨S128x4x1024, .f32⟩
  | .hbm, ⟨19, _⟩ => ⟨S128x4x1024, .f32⟩
  | .hbm, ⟨20, _⟩ => ⟨S128x4x4x256, .f32⟩
  | .hbm, ⟨21, _⟩ => ⟨S1x4x1x128, .f32⟩
  | .hbm, ⟨22, _⟩ => ⟨S1x4x1x128, .f32⟩
  | .hbm, ⟨23, _⟩ => ⟨S128x4x4x128, .f32⟩
  | .hbm, ⟨24, _⟩ => ⟨S128x4x4x128, .f32⟩
  | .hbm, ⟨25, _⟩ => ⟨S128x4x4x128, .f32⟩
  | .hbm, ⟨26, _⟩ => ⟨S128x4x4x128, .f32⟩
  | .hbm, ⟨27, _⟩ => ⟨S128x4x4x128, .f32⟩
  | .hbm, ⟨28, _⟩ => ⟨S128x4x4x128, .f32⟩
  | .hbm, ⟨29, _⟩ => ⟨S128x4x4x128, .f32⟩
  | .hbm, ⟨30, _⟩ => ⟨S128x4x4x128, .f32⟩
  | .hbm, ⟨31, _⟩ => ⟨S128x4x4x128, .f32⟩
  | .hbm, ⟨32, _⟩ => ⟨S128x4x4x128, .f32⟩
  | .hbm, ⟨33, _⟩ => ⟨S128x4x4x128, .f32⟩
  | .hbm, ⟨34, _⟩ => ⟨S128x4x4x128, .f32⟩
  | .hbm, ⟨35, _⟩ => ⟨S128x4x4x128x1, .f32⟩
  | .hbm, ⟨36, _⟩ => ⟨S128x4x4x128x1, .f32⟩
  | .hbm, ⟨37, _⟩ => ⟨S128x4x4x128x2, .f32⟩
  | .hbm, ⟨38, _⟩ => ⟨S128x4x4x256, .f32⟩
  | .hbm, ⟨39, _⟩ => ⟨S128x4x4x256, .f32⟩
  | .hbm, ⟨40, _⟩ => ⟨S1x4x1x128, .f32⟩
  | .hbm, ⟨41, _⟩ => ⟨S1x4x1x128, .f32⟩
  | .hbm, ⟨42, _⟩ => ⟨S128x4x4x128, .f32⟩
  | .hbm, ⟨43, _⟩ => ⟨S128x4x4x128, .f32⟩
  | .hbm, ⟨44, _⟩ => ⟨S128x4x4x128, .f32⟩
  | .hbm, ⟨45, _⟩ => ⟨S128x4x4x128, .f32⟩
  | .hbm, ⟨46, _⟩ => ⟨S128x4x4x128, .f32⟩
  | .hbm, ⟨47, _⟩ => ⟨S128x4x4x128, .f32⟩
  | .hbm, ⟨48, _⟩ => ⟨S128x4x4x128, .f32⟩
  | .hbm, ⟨49, _⟩ => ⟨S128x4x4x128, .f32⟩
  | .hbm, ⟨50, _⟩ => ⟨S128x4x4x128, .f32⟩
  | .hbm, ⟨51, _⟩ => ⟨S128x4x4x128, .f32⟩
  | .hbm, ⟨52, _⟩ => ⟨S128x4x4x128, .f32⟩
  | .hbm, ⟨53, _⟩ => ⟨S128x4x4x128, .f32⟩
  | .hbm, ⟨54, _⟩ => ⟨S128x4x4x128x1, .f32⟩
  | .hbm, ⟨55, _⟩ => ⟨S128x4x4x128x1, .f32⟩
  | .hbm, ⟨56, _⟩ => ⟨S128x4x4x128x2, .f32⟩
  | .hbm, ⟨57, _⟩ => ⟨S128x4x4x256, .f32⟩
  | .hbm, ⟨58, _⟩ => ⟨S_, .f32⟩
  | .hbm, ⟨59, _⟩ => ⟨S128x4x4x256, .f32⟩
  | .hbm, ⟨60, _⟩ => ⟨S128x4x4x256, .f32⟩
  | .hbm, ⟨61, _⟩ => ⟨S128x4x4x256, .f32⟩
  | .hbm, ⟨62, _⟩ => ⟨S128x4x4x4, .f32⟩
  | .hbm, ⟨63, _⟩ => ⟨S1x4x4x4, .f32⟩
  | .hbm, ⟨64, _⟩ => ⟨S128x4x4x4, .f32⟩
  | .hbm, ⟨65, _⟩ => ⟨S128x4x4x4, .f32⟩
  | .hbm, ⟨66, _⟩ => ⟨S128x4x256x4, .f32⟩
  | .hbm, ⟨67, _⟩ => ⟨S128x4x4x256, .f32⟩
  | .hbm, ⟨68, _⟩ => ⟨S128x4x256x4, .f32⟩
  | .hbm, ⟨69, _⟩ => ⟨S128x4x4x256, .f32⟩
  | .hbm, ⟨70, _⟩ => ⟨S4x4, .f32⟩
  | .hbm, ⟨71, _⟩ => ⟨S1x4x4x1, .f32⟩
  | .hbm, ⟨72, _⟩ => ⟨S128x4x4x256, .f32⟩
  | .hbm, ⟨73, _⟩ => ⟨S128x4x4x256, .f32⟩
  | .hbm, ⟨74, _⟩ => ⟨S1x4x1x1, .f32⟩
  | .hbm, ⟨75, _⟩ => ⟨S128x4x256x256, .f32⟩
  | .hbm, ⟨76, _⟩ => ⟨S128x4x256x256, .f32⟩
  | .hbm, ⟨77, _⟩ => ⟨S4x4, .f32⟩
  | .hbm, ⟨78, _⟩ => ⟨S1x4x4x1, .f32⟩
  | .hbm, ⟨79, _⟩ => ⟨S128x4x4x256, .f32⟩
  | .hbm, ⟨80, _⟩ => ⟨S128x4x4x256, .f32⟩
  | .hbm, ⟨81, _⟩ => ⟨S128x4x256x256, .f32⟩
  | .hbm, ⟨82, _⟩ => ⟨S128x4x256x256, .f32⟩
  | .hbm, ⟨83, _⟩ => ⟨S128x4x4x256, .f32⟩
  | .hbm, ⟨84, _⟩ => ⟨S128x4x4x256, .f32⟩
  | .hbm, ⟨85, _⟩ => ⟨S_, .f32⟩
  | .hbm, ⟨86, _⟩ => ⟨S128x4x4, .f32⟩
  | .hbm, ⟨87, _⟩ => ⟨S128x4x4x1, .f32⟩
  | .hbm, ⟨88, _⟩ => ⟨S_, .f32⟩
  | .hbm, ⟨89, _⟩ => ⟨S128x4x4x1, .f32⟩
  | .hbm, ⟨90, _⟩ => ⟨S128x4x4x1, .f32⟩
  | .hbm, ⟨91, _⟩ => ⟨S_, .f32⟩
  | .hbm, ⟨92, _⟩ => ⟨S128x4x4x1, .f32⟩
  | .hbm, ⟨93, _⟩ => ⟨S128x4x4x1, .f32⟩
  | .hbm, ⟨94, _⟩ => ⟨S128x4x4x1, .f32⟩
  | .hbm, ⟨95, _⟩ => ⟨S128x4x4x256, .f32⟩
  | .hbm, ⟨96, _⟩ => ⟨S128x4x4x256, .f32⟩
  | .hbm, ⟨97, _⟩ => ⟨S128x4x1024, .f32⟩
  | .hbm, ⟨98, _⟩ => ⟨S128x4x1024, .f32⟩
  | .hbm, ⟨99, _⟩ => ⟨S128x4x1024, .f32⟩
  | .hbm, ⟨100, _⟩ => ⟨S_, .f32⟩
  | .hbm, ⟨101, _⟩ => ⟨S128x4x1024, .f32⟩
  | .hbm, ⟨102, _⟩ => ⟨S128x4x1024, .f32⟩
  | .hbm, ⟨103, _⟩ => ⟨S_, .f32⟩
  | .hbm, ⟨104, _⟩ => ⟨S128x4x1024, .f32⟩
  | .hbm, ⟨105, _⟩ => ⟨S128x4x1024, .f32⟩
  | .hbm, ⟨106, _⟩ => ⟨S128x4x1024, .f32⟩
  | .hbm, ⟨107, _⟩ => ⟨S128x4x1024, .f32⟩
  | .hbm, ⟨108, _⟩ => ⟨S512x1024, .f32⟩
  | .hbm, ⟨109, _⟩ => ⟨S512x1024, .bf16⟩
  | _, _ => ⟨S528x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_0 : Ref sig .tc := ⟨.hbm, 85, rfl⟩
abbrev main_v76 : Ref sig .tc := ⟨.hbm, 86, rfl⟩
abbrev main_v77 : Ref sig .tc := ⟨.hbm, 87, rfl⟩
abbrev main_cst_1 : Ref sig .tc := ⟨.hbm, 88, rfl⟩
abbrev main_v78 : Ref sig .tc := ⟨.hbm, 89, rfl⟩
abbrev main_v79 : Ref sig .tc := ⟨.hbm, 90, rfl⟩
abbrev main_cst_2 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩

abbrev nD : Nat := 1
abbrev τ : Topo := Topo.v7x

variable {F : FTy → Type} [FloatOps F]
-- ==== FfnS.lean ====
abbrev S512x2048 : Shape := ⟨2, ![512, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S2048x512 : Shape := ⟨2, ![2048, 512]⟩
abbrev S64x2048 : Shape := ⟨2, ![64, 2048]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S512x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S512x2048, .f32⟩
  | .hbm, ⟨5, _⟩ => ⟨S2048, .f32⟩
  | .hbm, ⟨6, _⟩ => ⟨S1x2048, .f32⟩
  | .hbm, ⟨7, _⟩ => ⟨S512x2048, .f32⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S64x2048, .f32⟩
  | .local _ .vmem, ⟨8, _⟩ => ⟨S64x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c64_i32 : BitVec 32 := 64#32
  let v25 : BitVec 32 := Scalar.muli arg1 c64_i32
  v25
def k0_off1 (i : grid0.Coords) : Fin 2 → Nat :=
  let arg1 : BitVec 32 := BitVec.ofNat 32 (i 1).val
  let c64_i32 : BitVec 32 := 64#32
  let v25 : BitVec 32 := Scalar.muli arg1 c64_i32
  let v26 : BitVec 32 := v25
  let v27 : Index := Scalar.indexCast v26
  let c0_16 : Index := 0#32
  ![v27.toNat, 0]
def k0_cond3 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S512x2048 : Shape := ⟨2, ![512, 2048]⟩
abbrev S2048x5632 : Shape := ⟨2, ![2048, 5632]⟩
abbrev S5632x2048 : Shape := ⟨2, ![5632, 2048]⟩
abbrev S2048 : Shape := ⟨1, ![2048]⟩
abbrev S512x5632 : Shape := ⟨2, ![512, 5632]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S512x2048, .f32⟩
  | .hbm, ⟨5, _⟩ => ⟨S2048, .f32⟩
  | .hbm, ⟨6, _⟩ => ⟨S512x2048, .f32⟩
  | .hbm, ⟨7, _⟩ => ⟨S2048x5632, .f32⟩
  | .hbm, ⟨8, _⟩ => ⟨S512x5632, .f32⟩
  | .hbm, ⟨9, _⟩ => ⟨S512x5632, .f32⟩
  | .hbm, ⟨10, _⟩ => ⟨S512x5632, .f32⟩
  | .hbm, ⟨11, _⟩ => ⟨S_, .f32⟩
  | .hbm, ⟨12, _⟩ => ⟨S512x5632, .f32⟩
  | .hbm, ⟨13, _⟩ => ⟨S512x5632, .f32⟩
  | .hbm, ⟨14, _⟩ => ⟨S_, .f32⟩
  | .hbm, ⟨15, _⟩ => ⟨S512x5632, .f32⟩
  | .hbm, ⟨16, _⟩ => ⟨S512x5632, .f32⟩
  | .hbm, ⟨17, _⟩ => ⟨S512x5632, .f32⟩
  | .hbm, ⟨18, _⟩ => ⟨S512x2048, .f32⟩
  | .hbm, ⟨19, _⟩ => ⟨S2048x5632, .f32⟩
  | .hbm, ⟨20, _⟩ => ⟨S512x5632, .f32⟩
  | .hbm, ⟨21, _⟩ => ⟨S512x5632, .f32⟩
  | .hbm, ⟨22, _⟩ => ⟨S5632x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x1, .f32⟩
  | .hbm, ⟨36, _⟩ => ⟨S512x2048, .f32⟩
  | .hbm, ⟨37, _⟩ => ⟨S512x2048, .f32⟩
  | .hbm, ⟨38, _⟩ => ⟨S1x2048, .f32⟩
  | .hbm, ⟨39, _⟩ => ⟨S512x2048, .f32⟩
  | .hbm, ⟨40, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== RetP.lean ====
abbrev S8192x7680 : Shape := ⟨2, ![8192, 7680]⟩
abbrev S2048x128 : Shape := ⟨2, ![2048, 128]⟩
abbrev S4x128x128 : Shape := ⟨3, ![4, 128, 128]⟩
abbrev S4x128 : Shape := ⟨2, ![4, 128]⟩
abbrev S4 : Shape := ⟨1, ![4]⟩
abbrev S1x4x256x256 : Shape := ⟨4, ![1, 4, 256, 256]⟩
abbrev S256x256 : Shape := ⟨2, ![256, 256]⟩
abbrev S4x128x1 : Shape := ⟨3, ![4, 128, 1]⟩
abbrev S4x1x1 : Shape := ⟨3, ![4, 1, 1]⟩
abbrev S4x1x256 : Shape := ⟨3, ![4, 1, 256]⟩
abbrev S8192x1024 : Shape := ⟨2, ![8192, 1024]⟩
abbrev S4x4x256x256 : Shape := ⟨4, ![4, 4, 256, 256]⟩
abbrev S512x1024 : Shape := ⟨2, ![512, 1024]⟩
abbrev S512x128 : Shape := ⟨2, ![512, 128]⟩
abbrev S4x256x256 : Shape := ⟨3, ![4, 256, 256]⟩
abbrev S1x1x256x256 : Shape := ⟨4, ![1, 1, 256, 256]⟩
abbrev S1x256x256 : Shape := ⟨3, ![1, 256, 256]⟩
abbrev S128x256 : Shape := ⟨2, ![128, 256]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S1x1x256 : Shape := ⟨3, ![1, 1, 256]⟩
abbrev S1x256 : Shape := ⟨2, ![1, 256]⟩
abbrev S128 : Shape := ⟨1, ![128]⟩
abbrev S128x1024 : Shape := ⟨2, ![128, 1024]⟩

abbrev nBuf : Space → Nat
  | .hbm => 15
  | .vmem => 23
  | .smem => 0
  | _ => 0

abbrev bufTy : (tb : Table) → Fin (tcTables nBuf tb) → BufTy
  | .hbm, ⟨0, _⟩ => ⟨S8192x7680, .f32⟩
  | .hbm, ⟨1, _⟩ => ⟨S2048x128, .f32⟩
  | .hbm, ⟨2, _⟩ => ⟨S2048x128, .f32⟩
  | .hbm, ⟨3, _⟩ => ⟨S4x128x128, .f32⟩
  | .hbm, ⟨4, _⟩ => ⟨S4x128, .f32⟩
  | .hbm, ⟨5, _⟩ => ⟨S4x128, .f32⟩
  | .hbm, ⟨6, _⟩ => ⟨S4, .f32⟩
  | .hbm, ⟨7, _⟩ => ⟨S1x4x256x256, .f32⟩
  | .hbm, ⟨8, _⟩ => ⟨S256x256, .bf16⟩
  | .hbm, ⟨9, _⟩ => ⟨S4x128x1, .f32⟩
  | .hbm, ⟨10, _⟩ => ⟨S4x128x1, .f32⟩
  | .hbm, ⟨11, _⟩ => ⟨S4x1x1, .f32⟩
  | .hbm, ⟨12, _⟩ => ⟨S4x1x256, .f32⟩
  | .hbm, ⟨13, _⟩ => ⟨S8192x1024, .bf16⟩
  | .hbm, ⟨14, _⟩ => ⟨S4x4x256x256, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x128x128, .f32⟩
  | .local _ .vmem, ⟨13, _⟩ => ⟨S4x128x1, .f32⟩
  | .local _ .vmem, ⟨14, _⟩ => ⟨S4x128x1, .f32⟩
  | .local _ .vmem, ⟨15, _⟩ => ⟨S4x1x256, .f32⟩
  | .local _ .vmem, ⟨16, _⟩ => ⟨S256x256, .bf16⟩
  | .local _ .vmem, ⟨17, _⟩ => ⟨S1x4x256x256, .f32⟩
  | .local _ .vmem, ⟨18, _⟩ => ⟨S512x1024, .bf16⟩
  | .local _ .vmem, ⟨19, _⟩ => ⟨S512x1024, .bf16⟩
  | .local _ .vmem, ⟨20, _⟩ => ⟨S1x4x256x256, .f32⟩
  | .local _ .vmem, ⟨21, _⟩ => ⟨S1x4x256x256, .f32⟩
  | .local _ .vmem, ⟨22, _⟩ => ⟨S4x256x256, .f32⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v900 : BitVec 1 := Scalar.cmpi .eq arg1 c3_i32
  let v901 : BitVec 32 := Scalar.extui v900
  let c0_i32_411 : BitVec 32 := 0#32
  let v902 : BitVec 1 := Scalar.cmpi .ne v901 c0_i32_411
  v902

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Proof.LayoutRefAt.lean ====
/- The layout reference read at an index. -/
module

public import proofs.«01_k».proof.Proof.Gen.LayoutRefIdeal.Run
public import proofs.«01_k».proof.Proof.Gen.LayoutRefIdeal.Read
public import Idealize.ShloMosaic.Lib.Pointwise

@[expose] public section

set_option maxRecDepth 16384

noncomputable section

namespace Cert.LayoutRefIdeal.Value

open Cert.LayoutRefIdeal Cert.LayoutRefIdeal.Gen Cert.LayoutRefIdeal.Read Idealize.ShloMosaic Idealize.ShloMosaic.TcCoe Idealize.SL.Sem

/-- The column of the weight that the reference puts in column `j`: the two queries' and keys' ranges with the
    even members of every head before its odd ones, then the values' and gates' columns, then the first columns. -/
def srcCol (j : ℕ) : ℕ :=
  if j < 2048 then 3360 + (j / 256 * 256 + 2 * (j % 128) + j % 256 / 128) else if j < 4096 then 3360 + j else j - 4096

/-- That column exists. -/
theorem srcCol_lt (j : Fin 7680) : srcCol j.val < 7456 := by
  unfold srcCol; split_ifs <;> omega

/-- The reference at row `d` and column `j` is the weight at row `d` and column `srcCol j`. -/
theorem ref_at (X : FVec Ideal S1x2048x7456 .f32) (d : Fin 2048) (j : Fin 7680) :
    val_main_v12 (F := Ideal) X (ix2 d j : S2048x7680.Idx) = X (ix3 0 d ⟨srcCol j.val, srcCol_lt j⟩ : S1x2048x7456.Idx) := by
  pointwise [val_main_v12, val_main_v11, val_main_v10, val_main_v9, val_main_v8, val_main_v7, val_main_v6, val_main_v5, val_main_v4, val_main_v3, val_main_v2, val_main_v1, val_main_v0]
  split_ifs with h1 h2 h3 <;> refine congrArg X ((ix3_inj ..).2 ⟨rfl, rfl, Fin.ext ?_⟩) <;> dsimp only <;>
    unfold srcCol <;> split_ifs <;> first | omega | contradiction

end Cert.LayoutRefIdeal.Value

end
-- ==== Proof.LayoutTable.lean ====
/- The column table from which the layout kernel's one-hot matrix is made, as arithmetic. -/
module

public import proofs.«01_k».proof.LayoutIdeal
public import Idealize.ShloMosaic.Lib.Tactic

@[expose] public section

set_option maxRecDepth 16384

namespace Cert.LayoutIdeal.Table

open Cert.LayoutIdeal

/-- The member of a pair of heads' columns that lands at position `n` when each head's even columns come first. -/
def pairCol (n : Nat) : Nat := n / 256 * 256 + 2 * (n % 128) + n % 256 / 128

theorem pairCol_lt (n : Nat) (h : n < 512) : pairCol n < 512 := by unfold pairCol; omega

/-- The printed table holds `pairCol n` at position `n`. -/
theorem table : ∀ n : Fin 512, lit0t n.val = BitVec.ofNat 32 (pairCol n.val) := by decide +kernel

/-- Two words of numbers below 512 are equal only where the numbers are. -/
theorem word_eq_iff (a b : Nat) (ha : a < 512) (hb : b < 512) : BitVec.ofNat 32 a = BitVec.ofNat 32 b ↔ a = b := by
  constructor
  · intro h
    have := congrArg BitVec.toNat h
    simp only [BitVec.toNat_ofNat] at this
    omega
  · rintro rfl; rfl

end Cert.LayoutIdeal.Table

end
-- ==== Proof.LayoutPoint.lean ====
/- What the layout kernel leaves in its result, as the reference's re-arrangement of the weight's columns. -/
module

public import proofs.«01_k».proof.Proof.Gen.LayoutIdeal.Value
public import proofs.«01_k».proof.Proof.LayoutRefAt
public import proofs.«01_k».proof.Proof.LayoutTable
public import Idealize.ShloMosaic.Lib.Pipeline.ValueKit
public import Idealize.ShloMosaic.Lib.Pointwise
public import Idealize.ShloMosaic.Lib.Claim

@[expose] public section

set_option maxRecDepth 16384

noncomputable section

namespace Cert.LayoutIdeal.Value

open Cert.LayoutIdeal Cert.LayoutIdeal.Gen Cert.LayoutIdeal.Table Idealize.ShloMosaic Idealize.ShloMosaic.TcCoe Idealize.SL.Sem
open Idealize.ShloMosaic.Pipeline (Dat)

variable (m : (ℓ : Loc nD τ sig) → Buf (Elt Ideal) ℓ)

/-- The block indices of the one-hot matrix's window and of the result's. -/
theorem idx : ∀ t : Fin cfg0.N, win0_1.index t = ![0, 0] ∧ win0_2.index t = ![0, t.val] :=
  (by decide +kernel : ∀ t : Fin grid0.N, _)

/-- The row at which the weight's window begins. -/
theorem off : ∀ t : Fin cfg0.N, cc0_transform_0 (grid0.coords t) = ![if t.val < 8 then 3360 + 512 * t.val else 512 * (t.val - 8), 0] :=
  (by decide +kernel : ∀ t : Fin grid0.N, _)

/-- The weight's window at point `t` holds the weight's columns from that row of its transpose on. -/
theorem wblk (c : Dev nD) (t : Fin cfg0.N) (r : Fin 512) (d : Fin 2048) (h : (if t.val < 8 then 3360 + 512 * t.val else 512 * (t.val - 8)) + r.val < 7456) :
    iblk m c 0 t (ix2 r d : S512x2048.Idx) = m ((c : Thread nD τ).loc main_arg0) (ix3 0 d ⟨(if t.val < 8 then 3360 + 512 * t.val else 512 * (t.val - 8)) + r.val, h⟩) := by
  have e : ((cfg0.win 0).blk t).view.emb (ix2 r d) = (ix2 ⟨(if t.val < 8 then 3360 + 512 * t.val else 512 * (t.val - 8)) + r.val, h⟩ d : S7456x2048.Idx) := by
    funext a; apply Fin.ext
    match a with
    | ⟨0, _⟩ =>
      show cc0_transform_0 (grid0.coords t) 0 + 1 * r.val = _
      rw [off t, Nat.one_mul]; rfl
    | ⟨1, _⟩ =>
      show cc0_transform_0 (grid0.coords t) 1 + 1 * d.val = _
      rw [off t, Nat.one_mul]; exact Nat.zero_add _
  show V m c main_v1 (((cfg0.win 0).blk t).view.emb (ix2 r d)) = _
  rw [e]
  entry_read
  pointwise

/-- The one-hot matrix's window holds a one at each row's selected column, zero elsewhere. -/
theorem sblk (c : Dev nD) (t : Fin cfg0.N) (r k : Fin 512) :
    iblk m c 1 t (ix2 r k : S512x512.Idx) = if pairCol r.val = k.val then (1 : EReal) else 0 := by
  have e : ((cfg0.win 1).blk t).view.emb (ix2 r k) = (ix2 r k : S512x512.Idx) := by
    blk_ext [idx t]
  show V m c main_v8 (((cfg0.win 1).blk t).view.emb (ix2 r k)) = _
  rw [e]
  entry_read
  pointwise
  have e2 : lit0 (S512.rowMajor (ix1 r)) = BitVec.ofNat 32 (pairCol r.val) := by
    rw [← table r]
    exact congrArg lit0t (Shape.rowMajor_val_one _)
  rw [e2]
  by_cases h : pairCol r.val = k.val
  · rw [if_pos h, h]
    simp only [IntOp.cmpi, beq_self_eq_true]
    show (((BitVec.ofBool true).toNat : ℝ) : EReal) = 1
    simp
  · have h' := fun e => h ((word_eq_iff _ _ (pairCol_lt _ r.isLt) k.isLt).1 e)
    rw [if_neg h]
    simp only [IntOp.cmpi, beq_eq_false_iff_ne.2 h']
    show (((BitVec.ofBool false).toNat : ℝ) : EReal) = 0
    simp

/-- From the fifth point on the body transposes its block. -/
theorem point_B (c : Dev nD) (t : Fin cfg0.N) (y0 : Fin 2048) (y1 : Fin 512) (h0 : 4 ≤ t.val) (h1 : ¬ t.val < 4) :
    outsAt0 m c t.val t.isLt (ix2 y0 y1 : S2048x512.Idx) = iblk m c 0 t (ix2 y1 y0 : S512x2048.Idx) := by
  rw [outsAt0_B m c t h0 h1]; frame_out
  pointwise [k0_pay1]

/-- At the first four points the body multiplies its block by the one-hot matrix and transposes. -/
theorem point_A (c : Dev nD) (t : Fin cfg0.N) (y0 : Fin 2048) (y1 : Fin 512) (h0 : ¬ 4 ≤ t.val) (h1 : t.val < 4) :
    outsAt0 m c t.val t.isLt (ix2 y0 y1 : S2048x512.Idx) = ∑ k : Fin 512, (show EReal from iblk m c 1 t (ix2 y1 k : S512x512.Idx)) * (show EReal from iblk m c 0 t (ix2 k y0 : S512x2048.Idx)) := by
  rw [outsAt0_A m c t h0 h1]; frame_out
  pointwise [k0_pay2]

/-- A sum against a row with a single one reads the entry it selects. -/
theorem sum_select (s : Fin 512) (e f : Fin 512 → EReal) (hs : e s = 1) (hn : ∀ k, k ≠ s → e k = 0) :
    ∑ k : Fin 512, e k * f k = f s := by
  rw [Finset.sum_eq_single s (fun k _ hk => by rw [hn k hk, zero_mul]) (fun h => absurd (Finset.mem_univ s) h), hs, one_mul]

/-- The layout kernel's result is the reference's: the columns of the two rotated operands' heads de-interleaved, the rest in place. -/
theorem final (c : Dev nD) : (dats m 0 c).arrAt 2 (cfgs 0).N
    = Cert.LayoutRefIdeal.Read.val_main_v12 (F := Ideal) (m ((c : Thread nD τ).loc main_arg0)) := by
  refine (dats m 0 c).arrAt_eq_of_covers 2 _ (by decide +kernel) fun t _ y => ?_
  have ht : t.val < 15 := lt_of_lt_of_eq t.isLt N_0
  blk_simp
  rw [after0_2]
  idx_vars y
  have hb : t.val * 512 + y1.val < 7680 := by omega
  have e : ((cfg0.win 2).blk t).view.emb (ix2 y0 y1) = (ix2 y0 ⟨t.val * 512 + y1.val, hb⟩ : S2048x7680.Idx) := by
    blk_ext [idx t]
  rw [e, Cert.LayoutRefIdeal.Value.ref_at]
  by_cases h : 4 ≤ t.val
  · rw [point_B m c t y0 y1 h (by omega), wblk m c t y1 y0 (by split_ifs <;> omega)]
    refine congrArg _ ((ix3_inj ..).2 ⟨rfl, rfl, Fin.ext ?_⟩)
    dsimp only
    unfold Cert.LayoutRefIdeal.Value.srcCol
    split_ifs <;> omega
  · have hp : pairCol y1.val < 512 := by unfold pairCol; omega
    rw [point_A m c t y0 y1 h (by omega)]
    refine (sum_select ⟨pairCol y1.val, hp⟩ _ _ ?_ ?_).trans ?_
    · show iblk m c 1 t (ix2 y1 _) = _
      rw [sblk, if_pos rfl]
    · intro k hk
      show iblk m c 1 t (ix2 y1 k) = _
      rw [sblk, if_neg fun h => hk (Fin.ext h.symm)]
    · show iblk m c 0 t (ix2 _ y0) = _
      rw [wblk m c t _ y0 (by dsimp only; split_ifs <;> omega)]
      refine congrArg _ ((ix3_inj ..).2 ⟨rfl, rfl, Fin.ext ?_⟩)
      dsimp only
      unfold Cert.LayoutRefIdeal.Value.srcCol pairCol
      split_ifs <;> omega

end Cert.LayoutIdeal.Value

end
-- ==== Proof.FfnRefAt.lean ====
/- The plain FFN reference read at an index. -/
module

public import proofs.«01_k».proof.Proof.Gen.FfnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnRefIdeal.Value

open Cert.FfnRefIdeal Cert.FfnRefIdeal.Read Idealize.ShloMosaic

/-- The feed-forward product of row `r` and hidden column `l`: `silu(gate) * up`. -/
def act (x0 : S8192x2048.Idx → EReal) (x1 x2 : S2048x5632.Idx → EReal) (r : Fin 8192) (l : Fin 5632) : EReal :=
  (∑ k : Fin 2048, x0 (ix2 r k) * x1 (ix2 k l)) * Ideal.div 1 (1 + Ideal.exp (-∑ k : Fin 2048, x0 (ix2 r k) * x1 (ix2 k l)))
    * ∑ k : Fin 2048, x0 (ix2 r k) * x2 (ix2 k l)

/-- The residual row plus the down projection. -/
def res (x0 : S8192x2048.Idx → EReal) (x1 x2 : S2048x5632.Idx → EReal) (x3 : S5632x2048.Idx → EReal) (x4 : S8192x2048.Idx → EReal)
    (r : Fin 8192) (j : Fin 2048) : EReal :=
  x4 (ix2 r j) + ∑ l : Fin 5632, act x0 x1 x2 r l * x3 (ix2 l j)

/-- The reference before its last norm. -/
theorem res_at (x0 : (⟨S8192x2048, .bf16⟩ : BufTy).Contents (Elt Ideal)) (x1 x2 : (⟨S2048x5632, .bf16⟩ : BufTy).Contents (Elt Ideal))
    (x3 : (⟨S5632x2048, .bf16⟩ : BufTy).Contents (Elt Ideal)) (x4 : (⟨S8192x2048, .f32⟩ : BufTy).Contents (Elt Ideal)) (r : Fin 8192) (j : Fin 2048) :
    val_main_v10 (F := Ideal) x0 x1 x2 x3 x4 (ix2 r j) = res x0 x1 x2 x3 x4 r j := by
  pointwise [val_main_v10, val_main_v9, val_main_v8, val_main_v7, val_main_v6, val_main_v5, val_main_v4, val_main_v3, val_main_v2, val_main_v1, val_main_v0,
   val_main_call0_v0, val_main_call0_v1, val_main_call0_v2, val_main_call0_v3, val_main_call0_v4, val_main_call0_v5, val_main_call0_cst, val_main_call0_cst_0]
  rfl

/-- The reference: each row of that, divided by the root of its mean square and scaled. -/
theorem ref_at (x0 : (⟨S8192x2048, .bf16⟩ : BufTy).Contents (Elt Ideal)) (x1 x2 : (⟨S2048x5632, .bf16⟩ : BufTy).Contents (Elt Ideal))
    (x3 : (⟨S5632x2048, .bf16⟩ : BufTy).Contents (Elt Ideal)) (x4 : (⟨S8192x2048, .f32⟩ : BufTy).Contents (Elt Ideal)) (x5 : (⟨S2048, .f32⟩ : BufTy).Contents (Elt Ideal)) (r : Fin 8192) (j : Fin 2048) :
    val_main_v23 (F := Ideal) x0 x1 x2 x3 x4 x5 (ix2 r j)
      = res x0 x1 x2 x3 x4 r j * Ideal.rsqrt (Ideal.div (∑ k : Fin 2048, res x0 x1 x2 x3 x4 r k * res x0 x1 x2 x3 x4 r k) (Ideal.ofBits FTy.f32 0x45000000#32)
          + Ideal.ofBits FTy.f32 0x358637BD#32) * x5 (ix1 j) := by
  have e := res_at x0 x1 x2 x3 x4 r
  simp only [← e]
  unfold val_main_v23 val_main_v20 val_main_v19 val_main_v18 val_main_v17 val_main_v15 val_main_v13 val_main_v12 val_main_v11
  generalize val_main_v10 (F := Ideal) x0 x1 x2 x3 x4 = y
  pointwise [val_main_v22, val_main_v21, val_main_v16, val_main_v14, val_main_cst, val_main_cst_0, val_main_cst_1]

end Cert.FfnRefIdeal.Value

end
-- ==== Proof.FfnPoint.lean ====
/- The FFN kernel's result. -/
module

public import proofs.«01_k».proof.Proof.Gen.FfnIdeal.Value
public import proofs.«01_k».proof.Proof.FfnRefAt
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.Claim

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![t.val / 11 * 8 + min (t.val % 11) 7, 0] ∧ win0_5.index t = ![0, 0] ∧ win0_6.index t = ![t.val / 11, 0] :=
  (by decide +kernel : ∀ t : Fin grid0.N, _)

/-- The row of the batch that row `r` of point `t`'s block is, -/
def row (t : Fin cfg0.N) (r : Fin 1024) : Fin 8192 :=
  ⟨t.val / 11 * 1024 + r.val, by have := lt_of_lt_of_eq t.isLt N_0; omega⟩

/-- and the hidden column that column `k` of its weights is. -/
def col (t : Fin cfg0.N) (k : Fin 512) : Fin 5632 :=
  ⟨t.val % 11 * 512 + k.val, by omega⟩

theorem off (t : Fin cfg0.N) : k0_off1 (grid0.coords t) = ![t.val % 11 * 128, 0] :=
  (by decide +kernel : ∀ t : Fin grid0.N, k0_off1 (grid0.coords t) = ![t.val % 11 * 128, 0]) t

/-- What the addition of a slice of the residual to some rows of the accumulator leaves in it. -/
theorem slice_add {κ : Kind} {sp : Space} (v : View sig κ sp S1024x2048 .f32) (f : v.ty.Contents (Elt Ideal)) (L : List (View.Piece (Elt Ideal) S1024x2048 .f32))
    (X : Vec Ideal S1024x2048 .f32) (hb : Vec Ideal S128x2048 .f32) (n : ℕ) (o : Fin 2 → ℕ) (ho : o = ![n * 128, 0]) (inb : ∀ a, o a + (![128, 2048] : Fin 2 → ℕ) a ≤ S1024x2048.size a)
    (r : Fin 1024) (j : Fin 2048) (hX : v.read (Elt Ideal) (v.writes (Elt Ideal) f L) (ix2 r j) = X (ix2 r j)) :
    v.read (Elt Ideal) (v.writes (Elt Ideal) f (⟨Rect.unit (s := S1024x2048) o ![128, 2048] inb, k0_pay2 (View.ld X (Rect.unit (s := S1024x2048) o ![128, 2048] inb)) hb⟩ :: L)) (ix2 r j)
      = X (ix2 r j) + if r.val / 128 = n then hb (ix2 ⟨r.val % 128, Nat.mod_lt _ (by decide)⟩ j) else (0 : EReal) := by
  by_cases h : r.val / 128 = n
  · rw [View.read_writes_cons_rows_of_mem v f inb _ L (ix2 r j) (ix2 ⟨r.val % 128, Nat.mod_lt _ (by decide)⟩ j : S128x2048.Idx) ho (by show r.val = n * 128 + r.val % 128; omega) rfl, if_pos h]
    subst ho
    pointwise [k0_pay2]
    have e : (⟨n * 128 + r.val % 128, by omega⟩ : Fin 1024) = r := Fin.ext (by show n * 128 + r.val % 128 = r.val; omega)
    rw [e]
  · rw [View.read_writes_cons_rows_of_not_mem v f inb _ L (ix2 r j) ho rfl (by show r.val < n * 128 ∨ n * 128 + 128 ≤ r.val; omega), hX, if_neg h, add_zero]

/-- Over the buffer's contents, -/
theorem slice_carry {κ : Kind} {sp : Space} (v : View sig κ sp S1024x2048 .f32) (f : v.ty.Contents (Elt Ideal)) (hb : Vec Ideal S128x2048 .f32)
    (n : ℕ) (o : Fin 2 → ℕ) (ho : o = ![n * 128, 0]) (inb : ∀ a, o a + (![128, 2048] : Fin 2 → ℕ) a ≤ S1024x2048.size a) (r : Fin 1024) (j : Fin 2048) :
    v.read (Elt Ideal) (v.writes (Elt Ideal) f [⟨Rect.unit (s := S1024x2048) o ![128, 2048] inb,
        k0_pay2 (View.ld (v.read (Elt Ideal) f) (Rect.unit (s := S1024x2048) o ![128, 2048] inb)) hb⟩]) (ix2 r j)
      = v.read (Elt Ideal) f (ix2 r j) + if r.val / 128 = n then hb (ix2 ⟨r.val % 128, Nat.mod_lt _ (by decide)⟩ j) else (0 : EReal) :=
  slice_add v f [] _ hb n o ho inb r j rfl

/-- and over the zeros just stored. -/
theorem slice_fill {κ : Kind} {sp : Space} (v : View sig κ sp S1024x2048 .f32) (f : v.ty.Contents (Elt Ideal)) (Z : Vec Ideal S1024x2048 .f32) (hb : Vec Ideal S128x2048 .f32)
    (n : ℕ) (o : Fin 2 → ℕ) (ho : o = ![n * 128, 0]) (inb : ∀ a, o a + (![128, 2048] : Fin 2 → ℕ) a ≤ S1024x2048.size a)
    (inb' : ∀ a, (![0, 0] : Fin 2 → ℕ) a + (![1024, 2048] : Fin 2 → ℕ) a ≤ S1024x2048.size a) (r : Fin 1024) (j : Fin 2048) :
    v.read (Elt Ideal) (v.writes (Elt Ideal) f [⟨Rect.unit (s := S1024x2048) o ![128, 2048] inb,
        k0_pay2 (View.ld Z (Rect.unit (s := S1024x2048) o ![128, 2048] inb)) hb⟩, ⟨Rect.unit (s := S1024x2048) ![0, 0] ![1024, 2048] inb', Z⟩]) (ix2 r j)
      = Z (ix2 r j) + if r.val / 128 = n then hb (ix2 ⟨r.val % 128, Nat.mod_lt _ (by decide)⟩ j) else (0 : EReal) :=
  slice_add v f _ Z hb n o ho inb r j
    (View.read_writes_cons_rows_of_mem (o := 0) v f inb' Z [] (ix2 r j) (ix2 r j : S1024x2048.Idx) rfl (Nat.zero_add _).symm rfl)

theorem pay3 (acc : Vec Ideal S1024x2048 .f32) (v6 : Vec Ideal S1024x2048 .bf16) (v7 v9 : Vec Ideal S2048x512 .bf16) (v16 : Vec Ideal S512x2048 .bf16) (r : Fin 1024) (j : Fin 2048) :
    k0_pay3 (F := Ideal) v6 v7 v9 acc v16 (ix2 r j) = acc (ix2 r j) + ∑ l : Fin 512,
      ((∑ k : Fin 2048, v6 (ix2 r k) * v7 (ix2 k l)) * Ideal.logistic (∑ k : Fin 2048, v6 (ix2 r k) * v7 (ix2 k l)) * ∑ k : Fin 2048, v6 (ix2 r k) * v9 (ix2 k l)) * v16 (ix2 l j) := by
  pointwise [k0_pay3]

theorem pay1 (y : S1024x2048.Idx) : k0_pay1 (F := Ideal) y = 0 := by
  idx_vars y
  pointwise [k0_pay1]

theorem pay4 (acc : Vec Ideal S1024x2048 .f32) (g : Vec Ideal S1x2048 .f32) (r : Fin 1024) (j : Fin 2048) :
    k0_pay4 (F := Ideal) acc g (ix2 r j) = acc (ix2 r j) * Ideal.rsqrt (Ideal.div (∑ k : Fin 2048, acc (ix2 r k) * acc (ix2 r k)) (Ideal.ofBits FTy.f32 0x45000000#32)
          + Ideal.ofBits FTy.f32 0x358637BD#32) * g (ix2 0 j) := by
  pointwise [k0_pay4]

/-- The arguments of the FFN. -/
abbrev hn (c : Dev nD) : S8192x2048.Idx → EReal := m ((c : Thread nD τ).loc main_arg0)
abbrev wg (c : Dev nD) : S2048x5632.Idx → EReal := m ((c : Thread nD τ).loc main_arg1)
abbrev wu (c : Dev nD) : S2048x5632.Idx → EReal := m ((c : Thread nD τ).loc main_arg2)
abbrev wd (c : Dev nD) : S5632x2048.Idx → EReal := m ((c : Thread nD τ).loc main_arg3)
abbrev hh (c : Dev nD) : S8192x2048.Idx → EReal := m ((c : Thread nD τ).loc main_arg4)
abbrev gn (c : Dev nD) : S2048.Idx → EReal := m ((c : Thread nD τ).loc main_arg5)

open Cert.FfnRefIdeal.Value (act res)

/-- What point `t` adds to the accumulator: to some rows the residual, and to all the product over its hidden columns. -/
def term (c : Dev nD) (t : Fin cfg0.N) (y : S1024x2048.Idx) : EReal :=
  (if (y 0).val / 128 = t.val % 11 then hh m c (ix2 (row t (y 0)) (y 1)) else 0)
    + ∑ k : Fin 512, act (hn m c) (wg m c) (wu m c) (row t (y 0)) (col t k) * wd m c (ix2 (col t k) (y 1))

theorem term_at (c : Dev nD) (t : Fin cfg0.N) (r : Fin 1024) (j : Fin 2048) : term m c t (ix2 r j)
    = (if r.val / 128 = t.val % 11 then hh m c (ix2 (row t r) j) else 0)
      + ∑ k : Fin 512, act (hn m c) (wg m c) (wu m c) (row t r) (col t k) * wd m c (ix2 (col t k) j) := rfl

/-- The product part of it, from the blocks. -/
theorem prod_eq (c : Dev nD) (t : Fin cfg0.N) (acc : Vec Ideal S1024x2048 .f32) (r : Fin 1024) (j : Fin 2048) :
    k0_pay3 (F := Ideal) (iblk m c 0 t) (iblk m c 1 t) (iblk m c 2 t) acc (iblk m c 3 t) (ix2 r j)
      = acc (ix2 r j) + ∑ k : Fin 512, act (hn m c) (wg m c) (wu m c) (row t r) (col t k) * wd m c (ix2 (col t k) j) := by
  have a0 : ∀ k : Fin 2048, iblk m c 0 t (ix2 r k) = hn m c (ix2 (row t r) k) := fun k => by blk_point [iblk, V, idx t]; rfl
  have a1 : ∀ (k : Fin 2048) (l : Fin 512), iblk m c 1 t (ix2 k l) = wg m c (ix2 k (col t l)) := fun k l => by blk_point [iblk, V, idx t]; rfl
  have a2 : ∀ (k : Fin 2048) (l : Fin 512), iblk m c 2 t (ix2 k l) = wu m c (ix2 k (col t l)) := fun k l => by blk_point [iblk, V, idx t]; rfl
  have a3 : ∀ (l : Fin 512), iblk m c 3 t (ix2 l j) = wd m c (ix2 (col t l) j) := fun l => by blk_point [iblk, V, idx t]; rfl
  rw [pay3]
  simp only [a0, a1, a2, a3]
  rfl

/-- The residual's block at a point where some rows take it. -/
theorem hblk (c : Dev nD) (t : Fin cfg0.N) (r : Fin 1024) (j : Fin 2048) (h : r.val / 128 = t.val % 11) :
    iblk m c 4 t (ix2 ⟨r.val % 128, Nat.mod_lt _ (by decide)⟩ j) = hh m c (ix2 (row t r) j) := by
  blk_point [iblk, V, idx t]
  show _ = t.val / 11 * 1024 + r.val
  omega

/-- The residual's part, from the blocks. -/
theorem slice_eq (c : Dev nD) (t : Fin cfg0.N) (r : Fin 1024) (j : Fin 2048) :
    (if r.val / 128 = t.val % 11 then iblk m c 4 t (ix2 ⟨r.val % 128, Nat.mod_lt _ (by decide)⟩ j) else (0 : EReal))
      = if r.val / 128 = t.val % 11 then hh m c (ix2 (row t r) j) else 0 := by
  split_ifs with h
  · exact hblk m c t r j h
  · rfl

/-- The block written back is the norm of the accumulator. -/
theorem out_D (c : Dev nD) (t : Fin cfg0.N) (h : t.val % 11 = 10) :
    (outsAt0 m c t.val t.isLt).1 = k0_pay4 (outsAt0 m c t.val t.isLt).2 (iblk m c 5 t) := by
  rw [outsAt0_D m c t (by omega) (by omega) h]
  frame_out

/-- The accumulator after the first point of a row block, -/
theorem step_A (c : Dev nD) (t : Fin cfg0.N) (h : t.val % 11 = 0) (y : S1024x2048.Idx) : (outsAt0 m c t.val t.isLt).2 y = 0 + term m c t y := by
  idx_vars y
  rw [outsAt0_A m c t h (by omega) (by omega)]
  frame_out
  rw [prod_eq, View.readCov, View.readAt_apply]
  have e : (Rect.unit (s := S1024x2048) ![0, 0] ![1024, 2048] inb_S1024x2048_S1024x2048_0_0).toLoadRect.idx (ix2 y0 y1) = ix2 y0 y1 := by
    funext a; apply Fin.ext; fin_cases a <;> simp
  rw [e]
  rw [slice_fill (View.whole cc0_scratch0) _ (k0_pay1 (F := Ideal)) (iblk m c 4 t) (t.val % 11) _ (off t) _ inb_S1024x2048_S1024x2048_0_0 y0 y1, pay1, zero_add, zero_add, slice_eq]
  exact (term_at m c t y0 y1).symm

/-- and after any other. -/
theorem step_BC (c : Dev nD) (t : Fin cfg0.N) (h : ¬ t.val % 11 = 0) (y : S1024x2048.Idx) :
    (outsAt0 m c t.val t.isLt).2 y = (outsAt0 m c (t.val - 1) (Nat.lt_of_le_of_lt (Nat.sub_le _ _) t.isLt)).2 y + term m c t y := by
  idx_vars y
  by_cases h1 : t.val % 11 ≤ 7
  · rw [outsAt0_B m c t h h1 (by omega)]
    frame_out
    rw [prod_eq]
    rw [slice_carry (View.whole cc0_scratch0) _ (iblk m c 4 t) (t.val % 11) _ (off t) _ y0 y1, read_unread_whole, slice_eq, add_assoc, term_at]
  · have e : term m c t (ix2 y0 y1) = 0 + ∑ k : Fin 512, act (hn m c) (wg m c) (wu m c) (row t y0) (col t k) * wd m c (ix2 (col t k) y1) := by
      rw [term_at, if_neg (by omega)]
    rw [e, zero_add]
    by_cases h2 : t.val % 11 = 10
    · rw [outsAt0_D m c t h h1 h2]
      frame_out
      rw [prod_eq, read_unread_whole]
    · rw [outsAt0_C m c t h h1 h2]
      frame_out
      rw [prod_eq, read_unread_whole]

/-- The accumulator at the last point of a row block: the residual plus the whole down projection. -/
theorem acc_eq (c : Dev nD) (t : Fin cfg0.N) (h : t.val % 11 = 10) (r : Fin 1024) (j : Fin 2048) :
    (outsAt0 m c t.val t.isLt).2 (ix2 r j) = res (hn m c) (wg m c) (wu m c) (wd m c) (hh m c) (row t r) j := by
  have e := Pipeline.eq_sum_fin_of_reset_step_apply_of_flush (fun n h => (outsAt0 m c n h).2) 11 (fun _ => (0 : EReal)) (term m c) (step_A m c) (step_BC m c) t h (ix2 r j)
  refine e.trans ?_
  rw [zero_add]
  have ht := lt_of_lt_of_eq t.isLt N_0
  have hr : ∀ s : Fin 11, row ⟨11 * (t.val / 11) + s.val, Pipeline.run_point_lt_of_flush t h s⟩ r = row t r := fun s =>
    Fin.ext (by show (11 * (t.val / 11) + s.val) / 11 * 1024 + r.val = t.val / 11 * 1024 + r.val; omega)
  have hm : ∀ s : Fin 11, (11 * (t.val / 11) + s.val) % 11 = s.val := fun s => by omega
  show ∑ s : Fin 11, term m c ⟨11 * (t.val / 11) + s.val, Pipeline.run_point_lt_of_flush t h s⟩ (ix2 r j) = _
  simp only [term_at]
  unfold res
  rw [Finset.sum_add_distrib]
  congr 1
  · rw [Finset.sum_eq_single (⟨r.val / 128, by omega⟩ : Fin 11)]
    · rw [if_pos (hm ⟨r.val / 128, by omega⟩).symm, hr]
    · intro s _ hs
      refine if_neg fun q => hs (Fin.ext ?_)
      rw [hm] at q; exact q.symm
    · intro q; exact absurd (Finset.mem_univ _) q
  · refine Fin.sum_mul_add_congr fun s k hl => ?_
    have hc : col ⟨11 * (t.val / 11) + s.val, Pipeline.run_point_lt_of_flush t h s⟩ k = ⟨s.val * 512 + k.val, hl⟩ :=
      Fin.ext (by show (11 * (t.val / 11) + s.val) % 11 * 512 + k.val = _; rw [hm])
    rw [hr, hc]

/-- The kernel's result is the reference's. -/
theorem final (c : Dev nD) : (dats m 0 c).arrAt 6 (cfgs 0).N
    = Cert.FfnRefIdeal.Read.val_main_v23 (F := Ideal) (hn m c) (wg m c) (wu m c) (wd m c) (hh m c) (gn m c) := by
  refine (dats m 0 c).arrAt_eq_of_covers 6 _ (by decide +kernel) fun t hf y => ?_
  have h := (flush0_6 t).mp hf
  blk_simp
  rw [after0_6, out_D m c t h]
  idx_vars y
  have e : ((cfg0.win 6).blk t).view.emb (ix2 y0 y1) = (ix2 (row t y0) y1 : S8192x2048.Idx) := by
    blk_ext [idx t]
    rfl
  have a5 : iblk m c 5 t (ix2 0 y1) = gn m c (ix1 y1) := by
    blk_point [iblk, idx t]
  rw [e, Cert.FfnRefIdeal.Value.ref_at, pay4, a5]
  simp only [acc_eq m c t h]

end Cert.FfnIdeal.Value

end
-- ==== Proof.FfnSRefAt.lean ====
/- The plain FFN reference of the sample batch, read at an index. -/
module

public import proofs.«01_k».proof.Proof.Gen.FfnSRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.FfnSRefIdeal.Value

open Cert.FfnSRefIdeal Cert.FfnSRefIdeal.Read Idealize.ShloMosaic

/-- The feed-forward product of row `r` and hidden column `l`: `silu(gate) * up`. -/
def act (x0 : S512x2048.Idx → EReal) (x1 x2 : S2048x5632.Idx → EReal) (r : Fin 512) (l : Fin 5632) : EReal :=
  (∑ k : Fin 2048, x0 (ix2 r k) * x1 (ix2 k l)) * Ideal.div 1 (1 + Ideal.exp (-∑ k : Fin 2048, x0 (ix2 r k) * x1 (ix2 k l)))
    * ∑ k : Fin 2048, x0 (ix2 r k) * x2 (ix2 k l)

/-- The residual row plus the down projection. -/
def res (x0 : S512x2048.Idx → EReal) (x1 x2 : S2048x5632.Idx → EReal) (x3 : S5632x2048.Idx → EReal) (x4 : S512x2048.Idx → EReal)
    (r : Fin 512) (j : Fin 2048) : EReal :=
  x4 (ix2 r j) + ∑ l : Fin 5632, act x0 x1 x2 r l * x3 (ix2 l j)

/-- The reference before its last norm. -/
theorem res_at (x0 : (⟨S512x2048, .bf16⟩ : BufTy).Contents (Elt Ideal)) (x1 x2 : (⟨S2048x5632, .bf16⟩ : BufTy).Contents (Elt Ideal))
    (x3 : (⟨S5632x2048, .bf16⟩ : BufTy).Contents (Elt Ideal)) (x4 : (⟨S512x2048, .f32⟩ : BufTy).Contents (Elt Ideal)) (r : Fin 512) (j : Fin 2048) :
    val_main_v10 (F := Ideal) x0 x1 x2 x3 x4 (ix2 r j) = res x0 x1 x2 x3 x4 r j := by
  pointwise [val_main_v10, val_main_v9, val_main_v8, val_main_v7, val_main_v6, val_main_v5, val_main_v4, val_main_v3, val_main_v2, val_main_v1, val_main_v0,
   val_main_call0_v0, val_main_call0_v1, val_main_call0_v2, val_main_call0_v3, val_main_call0_v4, val_main_call0_v5, val_main_call0_cst, val_main_call0_cst_0]
  rfl

/-- The reference: each row of that, divided by the root of its mean square and scaled. -/
theorem ref_at (x0 : (⟨S512x2048, .bf16⟩ : BufTy).Contents (Elt Ideal)) (x1 x2 : (⟨S2048x5632, .bf16⟩ : BufTy).Contents (Elt Ideal))
    (x3 : (⟨S5632x2048, .bf16⟩ : BufTy).Contents (Elt Ideal)) (x4 : (⟨S512x2048, .f32⟩ : BufTy).Contents (Elt Ideal)) (x5 : (⟨S2048, .f32⟩ : BufTy).Contents (Elt Ideal)) (r : Fin 512) (j : Fin 2048) :
    val_main_v23 (F := Ideal) x0 x1 x2 x3 x4 x5 (ix2 r j)
      = res x0 x1 x2 x3 x4 r j * Ideal.rsqrt (Ideal.div (∑ k : Fin 2048, res x0 x1 x2 x3 x4 r k * res x0 x1 x2 x3 x4 r k) (Ideal.ofBits FTy.f32 0x45000000#32)
          + Ideal.ofBits FTy.f32 0x358637BD#32) * x5 (ix1 j) := by
  have e := res_at x0 x1 x2 x3 x4 r
  simp only [← e]
  unfold val_main_v23 val_main_v20 val_main_v19 val_main_v18 val_main_v17 val_main_v15 val_main_v13 val_main_v12 val_main_v11
  generalize val_main_v10 (F := Ideal) x0 x1 x2 x3 x4 = y
  pointwise [val_main_v22, val_main_v21, val_main_v16, val_main_v14, val_main_cst, val_main_cst_0, val_main_cst_1]

end Cert.FfnSRefIdeal.Value

end
-- ==== Proof.FfnSPoint.lean ====
/- The result of the FFN kernel of the sample batch. -/
module

public import proofs.«01_k».proof.Proof.Gen.FfnSIdeal.Value
public import proofs.«01_k».proof.Proof.FfnSRefAt
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.Claim

@[expose] public section

set_option maxRecDepth 16384

noncomputable section

namespace Cert.FfnSIdeal.Value

open Cert.FfnSIdeal Cert.FfnSIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![t.val / 11 * 8 + min (t.val % 11) 7, 0] ∧ win0_5.index t = ![0, 0] ∧ win0_6.index t = ![t.val / 11, 0] :=
  (by decide +kernel : ∀ t : Fin grid0.N, _)

/-- The row of the batch that row `r` of point `t`'s block is, -/
def row (t : Fin cfg0.N) (r : Fin 512) : Fin 512 :=
  ⟨t.val / 11 * 512 + r.val, by have := lt_of_lt_of_eq t.isLt N_0; omega⟩

/-- and the hidden column that column `k` of its weights is. -/
def col (t : Fin cfg0.N) (k : Fin 512) : Fin 5632 :=
  ⟨t.val % 11 * 512 + k.val, by omega⟩

theorem off (t : Fin cfg0.N) : k0_off1 (grid0.coords t) = ![t.val % 11 * 64, 0] :=
  (by decide +kernel : ∀ t : Fin grid0.N, k0_off1 (grid0.coords t) = ![t.val % 11 * 64, 0]) t

/-- What the addition of a slice of the residual to some rows of the accumulator leaves in it. -/
theorem slice_add {κ : Kind} {sp : Space} (v : View sig κ sp S512x2048 .f32) (f : v.ty.Contents (Elt Ideal)) (L : List (View.Piece (Elt Ideal) S512x2048 .f32))
    (X : Vec Ideal S512x2048 .f32) (hb : Vec Ideal S64x2048 .f32) (n : ℕ) (o : Fin 2 → ℕ) (ho : o = ![n * 64, 0]) (inb : ∀ a, o a + (![64, 2048] : Fin 2 → ℕ) a ≤ S512x2048.size a)
    (r : Fin 512) (j : Fin 2048) (hX : v.read (Elt Ideal) (v.writes (Elt Ideal) f L) (ix2 r j) = X (ix2 r j)) :
    v.read (Elt Ideal) (v.writes (Elt Ideal) f (⟨Rect.unit (s := S512x2048) o ![64, 2048] inb, k0_pay2 (View.ld X (Rect.unit (s := S512x2048) o ![64, 2048] inb)) hb⟩ :: L)) (ix2 r j)
      = X (ix2 r j) + if r.val / 64 = n then hb (ix2 ⟨r.val % 64, Nat.mod_lt _ (by decide)⟩ j) else (0 : EReal) := by
  by_cases h : r.val / 64 = n
  · rw [View.read_writes_cons_rows_of_mem v f inb _ L (ix2 r j) (ix2 ⟨r.val % 64, Nat.mod_lt _ (by decide)⟩ j : S64x2048.Idx) ho (by show r.val = n * 64 + r.val % 64; omega) rfl, if_pos h]
    subst ho
    pointwise [k0_pay2]
    have e : (⟨n * 64 + r.val % 64, by omega⟩ : Fin 512) = r := Fin.ext (by show n * 64 + r.val % 64 = r.val; omega)
    rw [e]
  · rw [View.read_writes_cons_rows_of_not_mem v f inb _ L (ix2 r j) ho rfl (by show r.val < n * 64 ∨ n * 64 + 64 ≤ r.val; omega), hX, if_neg h, add_zero]

/-- Over the buffer's contents, -/
theorem slice_carry {κ : Kind} {sp : Space} (v : View sig κ sp S512x2048 .f32) (f : v.ty.Contents (Elt Ideal)) (hb : Vec Ideal S64x2048 .f32)
    (n : ℕ) (o : Fin 2 → ℕ) (ho : o = ![n * 64, 0]) (inb : ∀ a, o a + (![64, 2048] : Fin 2 → ℕ) a ≤ S512x2048.size a) (r : Fin 512) (j : Fin 2048) :
    v.read (Elt Ideal) (v.writes (Elt Ideal) f [⟨Rect.unit (s := S512x2048) o ![64, 2048] inb,
        k0_pay2 (View.ld (v.read (Elt Ideal) f) (Rect.unit (s := S512x2048) o ![64, 2048] inb)) hb⟩]) (ix2 r j)
      = v.read (Elt Ideal) f (ix2 r j) + if r.val / 64 = n then hb (ix2 ⟨r.val % 64, Nat.mod_lt _ (by decide)⟩ j) else (0 : EReal) :=
  slice_add v f [] _ hb n o ho inb r j rfl

/-- and over the zeros just stored. -/
theorem slice_fill {κ : Kind} {sp : Space} (v : View sig κ sp S512x2048 .f32) (f : v.ty.Contents (Elt Ideal)) (Z : Vec Ideal S512x2048 .f32) (hb : Vec Ideal S64x2048 .f32)
    (n : ℕ) (o : Fin 2 → ℕ) (ho : o = ![n * 64, 0]) (inb : ∀ a, o a + (![64, 2048] : Fin 2 → ℕ) a ≤ S512x2048.size a)
    (inb' : ∀ a, (![0, 0] : Fin 2 → ℕ) a + (![512, 2048] : Fin 2 → ℕ) a ≤ S512x2048.size a) (r : Fin 512) (j : Fin 2048) :
    v.read (Elt Ideal) (v.writes (Elt Ideal) f [⟨Rect.unit (s := S512x2048) o ![64, 2048] inb,
        k0_pay2 (View.ld Z (Rect.unit (s := S512x2048) o ![64, 2048] inb)) hb⟩, ⟨Rect.unit (s := S512x2048) ![0, 0] ![512, 2048] inb', Z⟩]) (ix2 r j)
      = Z (ix2 r j) + if r.val / 64 = n then hb (ix2 ⟨r.val % 64, Nat.mod_lt _ (by decide)⟩ j) else (0 : EReal) :=
  slice_add v f _ Z hb n o ho inb r j
    (View.read_writes_cons_rows_of_mem (o := 0) v f inb' Z [] (ix2 r j) (ix2 r j : S512x2048.Idx) rfl (Nat.zero_add _).symm rfl)

theorem pay3 (acc : Vec Ideal S512x2048 .f32) (v6 : Vec Ideal S512x2048 .bf16) (v7 v9 : Vec Ideal S2048x512 .bf16) (v16 : Vec Ideal S512x2048 .bf16) (r : Fin 512) (j : Fin 2048) :
    k0_pay3 (F := Ideal) v6 v7 v9 acc v16 (ix2 r j) = acc (ix2 r j) + ∑ l : Fin 512,
      ((∑ k : Fin 2048, v6 (ix2 r k) * v7 (ix2 k l)) * Ideal.logistic (∑ k : Fin 2048, v6 (ix2 r k) * v7 (ix2 k l)) * ∑ k : Fin 2048, v6 (ix2 r k) * v9 (ix2 k l)) * v16 (ix2 l j) := by
  pointwise [k0_pay3]

theorem pay1 (y : S512x2048.Idx) : k0_pay1 (F := Ideal) y = 0 := by
  idx_vars y
  pointwise [k0_pay1]

theorem pay4 (acc : Vec Ideal S512x2048 .f32) (g : Vec Ideal S1x2048 .f32) (r : Fin 512) (j : Fin 2048) :
    k0_pay4 (F := Ideal) acc g (ix2 r j) = acc (ix2 r j) * Ideal.rsqrt (Ideal.div (∑ k : Fin 2048, acc (ix2 r k) * acc (ix2 r k)) (Ideal.ofBits FTy.f32 0x45000000#32)
          + Ideal.ofBits FTy.f32 0x358637BD#32) * g (ix2 0 j) := by
  pointwise [k0_pay4]

/-- The arguments of the FFN. -/
abbrev hn (c : Dev nD) : S512x2048.Idx → EReal := m ((c : Thread nD τ).loc main_arg0)
abbrev wg (c : Dev nD) : S2048x5632.Idx → EReal := m ((c : Thread nD τ).loc main_arg1)
abbrev wu (c : Dev nD) : S2048x5632.Idx → EReal := m ((c : Thread nD τ).loc main_arg2)
abbrev wd (c : Dev nD) : S5632x2048.Idx → EReal := m ((c : Thread nD τ).loc main_arg3)
abbrev hh (c : Dev nD) : S512x2048.Idx → EReal := m ((c : Thread nD τ).loc main_arg4)
abbrev gn (c : Dev nD) : S2048.Idx → EReal := m ((c : Thread nD τ).loc main_arg5)

open Cert.FfnSRefIdeal.Value (act res)

/-- What point `t` adds to the accumulator: to some rows the residual, and to all the product over its hidden columns. -/
def term (c : Dev nD) (t : Fin cfg0.N) (y : S512x2048.Idx) : EReal :=
  (if (y 0).val / 64 = t.val % 11 then hh m c (ix2 (row t (y 0)) (y 1)) else 0)
    + ∑ k : Fin 512, act (hn m c) (wg m c) (wu m c) (row t (y 0)) (col t k) * wd m c (ix2 (col t k) (y 1))

theorem term_at (c : Dev nD) (t : Fin cfg0.N) (r : Fin 512) (j : Fin 2048) : term m c t (ix2 r j)
    = (if r.val / 64 = t.val % 11 then hh m c (ix2 (row t r) j) else 0)
      + ∑ k : Fin 512, act (hn m c) (wg m c) (wu m c) (row t r) (col t k) * wd m c (ix2 (col t k) j) := rfl

/-- The product part of it, from the blocks. -/
theorem prod_eq (c : Dev nD) (t : Fin cfg0.N) (acc : Vec Ideal S512x2048 .f32) (r : Fin 512) (j : Fin 2048) :
    k0_pay3 (F := Ideal) (iblk m c 0 t) (iblk m c 1 t) (iblk m c 2 t) acc (iblk m c 3 t) (ix2 r j)
      = acc (ix2 r j) + ∑ k : Fin 512, act (hn m c) (wg m c) (wu m c) (row t r) (col t k) * wd m c (ix2 (col t k) j) := by
  have a0 : ∀ k : Fin 2048, iblk m c 0 t (ix2 r k) = hn m c (ix2 (row t r) k) := fun k => by blk_point [iblk, V, idx t]; rfl
  have a1 : ∀ (k : Fin 2048) (l : Fin 512), iblk m c 1 t (ix2 k l) = wg m c (ix2 k (col t l)) := fun k l => by blk_point [iblk, V, idx t]; rfl
  have a2 : ∀ (k : Fin 2048) (l : Fin 512), iblk m c 2 t (ix2 k l) = wu m c (ix2 k (col t l)) := fun k l => by blk_point [iblk, V, idx t]; rfl
  have a3 : ∀ (l : Fin 512), iblk m c 3 t (ix2 l j) = wd m c (ix2 (col t l) j) := fun l => by blk_point [iblk, V, idx t]; rfl
  rw [pay3]
  simp only [a0, a1, a2, a3]
  rfl

/-- The residual's block at a point where some rows take it. -/
theorem hblk (c : Dev nD) (t : Fin cfg0.N) (r : Fin 512) (j : Fin 2048) (h : r.val / 64 = t.val % 11) :
    iblk m c 4 t (ix2 ⟨r.val % 64, Nat.mod_lt _ (by decide)⟩ j) = hh m c (ix2 (row t r) j) := by
  blk_point [iblk, V, idx t]
  show _ = t.val / 11 * 512 + r.val
  omega

/-- The residual's part, from the blocks. -/
theorem slice_eq (c : Dev nD) (t : Fin cfg0.N) (r : Fin 512) (j : Fin 2048) :
    (if r.val / 64 = t.val % 11 then iblk m c 4 t (ix2 ⟨r.val % 64, Nat.mod_lt _ (by decide)⟩ j) else (0 : EReal))
      = if r.val / 64 = t.val % 11 then hh m c (ix2 (row t r) j) else 0 := by
  split_ifs with h
  · exact hblk m c t r j h
  · rfl

/-- The block written back is the norm of the accumulator. -/
theorem out_D (c : Dev nD) (t : Fin cfg0.N) (h : t.val % 11 = 10) :
    (outsAt0 m c t.val t.isLt).1 = k0_pay4 (outsAt0 m c t.val t.isLt).2 (iblk m c 5 t) := by
  have ht := lt_of_lt_of_eq t.isLt N_0
  rw [outsAt0_D m c t (by omega) (by omega) h]
  frame_out

/-- The accumulator after the first point of a row block, -/
theorem step_A (c : Dev nD) (t : Fin cfg0.N) (h : t.val % 11 = 0) (y : S512x2048.Idx) : (outsAt0 m c t.val t.isLt).2 y = 0 + term m c t y := by
  idx_vars y
  have ht := lt_of_lt_of_eq t.isLt N_0
  rw [outsAt0_A m c t h (by omega) (by omega)]
  frame_out
  rw [prod_eq, View.readCov, View.readAt_apply]
  have e : (Rect.unit (s := S512x2048) ![0, 0] ![512, 2048] inb_S512x2048_S512x2048_0_0).toLoadRect.idx (ix2 y0 y1) = ix2 y0 y1 := by
    funext a; apply Fin.ext; fin_cases a <;> simp
  rw [e]
  rw [slice_fill (View.whole cc0_scratch0) _ (k0_pay1 (F := Ideal)) (iblk m c 4 t) (t.val % 11) _ (off t) _ inb_S512x2048_S512x2048_0_0 y0 y1, pay1, zero_add, zero_add, slice_eq]
  exact (term_at m c t y0 y1).symm

/-- and after any other. -/
theorem step_BC (c : Dev nD) (t : Fin cfg0.N) (h : ¬ t.val % 11 = 0) (y : S512x2048.Idx) :
    (outsAt0 m c t.val t.isLt).2 y = (outsAt0 m c (t.val - 1) (Nat.lt_of_le_of_lt (Nat.sub_le _ _) t.isLt)).2 y + term m c t y := by
  idx_vars y
  have ht := lt_of_lt_of_eq t.isLt N_0
  by_cases h1 : t.val < 8
  · rw [outsAt0_B m c t h h1 (by omega)]
    frame_out
    rw [prod_eq]
    rw [slice_carry (View.whole cc0_scratch0) _ (iblk m c 4 t) (t.val % 11) _ (off t) _ y0 y1, read_unread_whole, slice_eq, add_assoc, term_at]
  · have e : term m c t (ix2 y0 y1) = 0 + ∑ k : Fin 512, act (hn m c) (wg m c) (wu m c) (row t y0) (col t k) * wd m c (ix2 (col t k) y1) := by
      rw [term_at, if_neg (by omega)]
    rw [e, zero_add]
    by_cases h2 : t.val % 11 = 10
    · rw [outsAt0_D m c t h h1 h2]
      frame_out
      rw [prod_eq, read_unread_whole]
    · rw [outsAt0_C m c t h h1 h2]
      frame_out
      rw [prod_eq, read_unread_whole]

/-- The accumulator at the last point of a row block: the residual plus the whole down projection. -/
theorem acc_eq (c : Dev nD) (t : Fin cfg0.N) (h : t.val % 11 = 10) (r : Fin 512) (j : Fin 2048) :
    (outsAt0 m c t.val t.isLt).2 (ix2 r j) = res (hn m c) (wg m c) (wu m c) (wd m c) (hh m c) (row t r) j := by
  have e := Pipeline.eq_sum_fin_of_reset_step_apply_of_flush (fun n h => (outsAt0 m c n h).2) 11 (fun _ => (0 : EReal)) (term m c) (step_A m c) (step_BC m c) t h (ix2 r j)
  refine e.trans ?_
  rw [zero_add]
  have ht := lt_of_lt_of_eq t.isLt N_0
  have hr : ∀ s : Fin 11, row ⟨11 * (t.val / 11) + s.val, Pipeline.run_point_lt_of_flush t h s⟩ r = row t r := fun s =>
    Fin.ext (by show (11 * (t.val / 11) + s.val) / 11 * 512 + r.val = t.val / 11 * 512 + r.val; omega)
  have hm : ∀ s : Fin 11, (11 * (t.val / 11) + s.val) % 11 = s.val := fun s => by omega
  show ∑ s : Fin 11, term m c ⟨11 * (t.val / 11) + s.val, Pipeline.run_point_lt_of_flush t h s⟩ (ix2 r j) = _
  simp only [term_at]
  unfold res
  rw [Finset.sum_add_distrib]
  congr 1
  · rw [Finset.sum_eq_single (⟨r.val / 64, by omega⟩ : Fin 11)]
    · rw [if_pos (hm ⟨r.val / 64, by omega⟩).symm, hr]
    · intro s _ hs
      refine if_neg fun q => hs (Fin.ext ?_)
      rw [hm] at q; exact q.symm
    · intro q; exact absurd (Finset.mem_univ _) q
  · refine Fin.sum_mul_add_congr fun s k hl => ?_
    have hc : col ⟨11 * (t.val / 11) + s.val, Pipeline.run_point_lt_of_flush t h s⟩ k = ⟨s.val * 512 + k.val, hl⟩ :=
      Fin.ext (by show (11 * (t.val / 11) + s.val) % 11 * 512 + k.val = _; rw [hm])
    rw [hr, hc]

/-- The kernel's result is the reference's. -/
theorem final (c : Dev nD) : (dats m 0 c).arrAt 6 (cfgs 0).N
    = Cert.FfnSRefIdeal.Read.val_main_v23 (F := Ideal) (hn m c) (wg m c) (wu m c) (wd m c) (hh m c) (gn m c) := by
  refine (dats m 0 c).arrAt_eq_of_covers 6 _ (by decide +kernel) fun t hf y => ?_
  have h := (flush0_6 t).mp hf
  blk_simp
  rw [after0_6, out_D m c t h]
  idx_vars y
  have e : ((cfg0.win 6).blk t).view.emb (ix2 y0 y1) = (ix2 (row t y0) y1 : S512x2048.Idx) := by
    blk_ext [idx t]
    rfl
  have a5 : iblk m c 5 t (ix2 0 y1) = gn m c (ix1 y1) := by
    blk_point [iblk, idx t]
  rw [e, Cert.FfnSRefIdeal.Value.ref_at, pay4, a5]
  simp only [acc_eq m c t h]

end Cert.FfnSIdeal.Value

end
-- ==== Proof.InProjRefAt.lean ====
/- The plain in-projection read at an index. -/
module

public import proofs.«01_k».proof.Proof.Gen.InProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.InProjRefIdeal.Value

open Cert.InProjRefIdeal Cert.InProjRefIdeal.Read Idealize.ShloMosaic

/-- Row `r` of the batch, normed: the input row divided by the root of its mean square and scaled. -/
def xn (x0 : S4x2048x2048.Idx → EReal) (x1 : S1x2048.Idx → EReal) (r : Fin 8192) (k : Fin 2048) : EReal :=
  x0 (ix3 ⟨r.val / 2048, by omega⟩ ⟨r.val % 2048, by omega⟩ k)
    * Ideal.rsqrt (Ideal.div (∑ q : Fin 2048, x0 (ix3 ⟨r.val / 2048, by omega⟩ ⟨r.val % 2048, by omega⟩ q) * x0 (ix3 ⟨r.val / 2048, by omega⟩ ⟨r.val % 2048, by omega⟩ q))
        (Ideal.ofBits FTy.f32 0x45000000#32) + Ideal.ofBits FTy.f32 0x358637BD#32)
    * x1 (ix2 0 k)

/-- The reference: the normed row times the weight. -/
theorem ref_at (x0 : (⟨S4x2048x2048, .f32⟩ : BufTy).Contents (Elt Ideal)) (x1 : (⟨S1x2048, .f32⟩ : BufTy).Contents (Elt Ideal)) (x2 : (⟨S2048x7680, .bf16⟩ : BufTy).Contents (Elt Ideal)) (r : Fin 8192) (j : Fin 7680) :
    val_main_v16 (F := Ideal) x0 x1 x2 (ix2 r j) = ∑ k : Fin 2048, xn x0 x1 r k * x2 (ix2 k j) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.InProjRefIdeal.Value

end
-- ==== Proof.InProjPoint.lean ====
/- What the in-projection kernel leaves in its result. -/
module

public import proofs.«01_k».proof.Proof.Gen.InProjIdeal.Value
public import proofs.«01_k».proof.Proof.InProjRefAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InProjIdeal.Value

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows. -/
theorem idx : ∀ t : Fin cfg0.N, win0_0.index t = ![t.val / 5, 0] ∧ win0_1.index t = ![0, 0] ∧ win0_2.index t = ![0, t.val % 5] ∧ win0_4.index t = ![t.val / 5, t.val % 5] :=
  (by decide +kernel : ∀ t : Fin grid0.N, _)

/-- The row of the batch that row `r` of point `t`'s blocks is, -/
def row (t : Fin cfg0.N) (r : Fin 1024) : Fin 8192 :=
  ⟨t.val / 5 * 1024 + r.val, by have := lt_of_lt_of_eq t.isLt N_0; omega⟩

/-- and the weight's column that column `j` of its weight block is. -/
def col (t : Fin cfg0.N) (j : Fin 1536) : Fin 7680 :=
  ⟨t.val % 5 * 1536 + j.val, by omega⟩

/-- The arguments. -/
abbrev xx (c : Dev nD) : S4x2048x2048.Idx → EReal := m ((c : Thread nD τ).loc main_arg0)
abbrev gn (c : Dev nD) : S1x2048.Idx → EReal := m ((c : Thread nD τ).loc main_arg1)
abbrev wp (c : Dev nD) : S2048x7680.Idx → EReal := m ((c : Thread nD τ).loc main_arg2)

open Cert.InProjRefIdeal.Value (xn)

theorem pay1 (v6 : Vec Ideal S1024x2048 .f32) (v8 : Vec Ideal S1x2048 .f32) (r : Fin 1024) (k : Fin 2048) :
    k0_pay1 (F := Ideal) v6 v8 (ix2 r k) = v6 (ix2 r k) * Ideal.rsqrt (Ideal.div (∑ q : Fin 2048, v6 (ix2 r q) * v6 (ix2 r q)) (Ideal.ofBits FTy.f32 0x45000000#32) + Ideal.ofBits FTy.f32 0x358637BD#32) * v8 (ix2 0 k) := by
  pointwise [k0_pay1]

theorem pay2 (v6 : Vec Ideal S1024x2048 .bf16) (v7 : Vec Ideal S2048x1536 .bf16) (r : Fin 1024) (j : Fin 1536) :
    k0_pay2 (F := Ideal) v6 v7 (ix2 r j) = ∑ k : Fin 2048, v6 (ix2 r k) * v7 (ix2 k j) := by
  pointwise [k0_pay2]

/-- The rows normed at a point. -/
theorem norm_eq (c : Dev nD) (t : Fin cfg0.N) (r : Fin 1024) (k : Fin 2048) :
    k0_pay1 (F := Ideal) (iblk m c 0 t) (iblk m c 1 t) (ix2 r k) = xn (xx m c) (gn m c) (row t r) k := by
  have a0 : ∀ q : Fin 2048, iblk m c 0 t (ix2 r q) = xx m c (ix3 ⟨(row t r).val / 2048, by omega⟩ ⟨(row t r).val % 2048, by omega⟩ q) := fun q => by
    blk_point [iblk, idx t] <;> rfl
  have a1 : iblk m c 1 t (ix2 0 k) = gn m c (ix2 0 k) := by blk_point [iblk, idx t]
  rw [pay1]
  simp only [a0, a1]
  rfl

theorem scr_A (c : Dev nD) (t : Fin cfg0.N) (h : t.val % 5 = 0) : (outsAt0 m c t.val t.isLt).2 = k0_pay1 (F := Ideal) (iblk m c 0 t) (iblk m c 1 t) := by
  rw [outsAt0_A m c t h]
  frame_out

theorem scr_B (c : Dev nD) (t : Fin cfg0.N) (h : ¬ t.val % 5 = 0) :
    (outsAt0 m c t.val t.isLt).2 = (outsAt0 m c (t.val - 1) (Nat.lt_of_le_of_lt (Nat.sub_le _ _) t.isLt)).2 := by
  rw [outsAt0_B m c t h]
  rfl

/-- The scratch holds the normed rows of the point's row block at every point. -/
theorem scr_eq (c : Dev nD) (r : Fin 1024) (k : Fin 2048) : ∀ (n : ℕ) (h : n < cfg0.N), (outsAt0 m c n h).2 (ix2 r k) = xn (xx m c) (gn m c) (row ⟨n, h⟩ r) k := by
  intro n
  induction n with
  | zero => intro h; rw [scr_A m c ⟨0, h⟩ rfl, norm_eq]
  | succ n ih =>
    intro h
    by_cases h0 : (n + 1) % 5 = 0
    · rw [scr_A m c ⟨n + 1, h⟩ h0, norm_eq]
    · rw [scr_B m c ⟨n + 1, h⟩ h0]
      refine (ih _).trans (congrArg (fun q => xn (xx m c) (gn m c) q k) (Fin.ext ?_))
      show n / 5 * 1024 + r.val = (n + 1) / 5 * 1024 + r.val
      omega

/-- The block written back is the product of the scratch with the weight's block. -/
theorem out_eq (c : Dev nD) (t : Fin cfg0.N) : (outsAt0 m c t.val t.isLt).1 = k0_pay2 (F := Ideal) (outsAt0 m c t.val t.isLt).2 (iblk m c 2 t) := by
  by_cases h : t.val % 5 = 0
  · rw [outsAt0_A m c t h]
    frame_out
  · rw [scr_B m c t h, outsAt0_B m c t h]
    frame_out
    rw [read_unread_whole]

/-- The kernel's result is the reference's. -/
theorem final (c : Dev nD) : (dats m 0 c).arrAt 4 (cfgs 0).N
    = Cert.InProjRefIdeal.Read.val_main_v16 (F := Ideal) (xx m c) (gn m c) (wp m c) := by
  refine (dats m 0 c).arrAt_eq_of_covers 4 _ (by decide +kernel) fun t _ y => ?_
  blk_simp
  rw [after0_4, out_eq]
  idx_vars y
  have e : ((cfg0.win 4).blk t).view.emb (ix2 y0 y1) = (ix2 (row t y0) (col t y1) : S8192x7680.Idx) := by
    blk_ext [idx t] <;> rfl
  have a2 : ∀ k : Fin 2048, iblk m c 2 t (ix2 k y1) = wp m c (ix2 k (col t y1)) := fun k => by blk_point [iblk, V, idx t]; rfl
  rw [e, Cert.InProjRefIdeal.Value.ref_at, pay2]
  simp only [scr_eq, a2]

end Cert.InProjIdeal.Value

end
-- ==== Proof.OutProjRefAt.lean ====
/- The plain out-projection read at an index. -/
module

public import proofs.«01_k».proof.Proof.Gen.OutProjRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.OutProjRefIdeal.Value

open Cert.OutProjRefIdeal Cert.OutProjRefIdeal.Read Idealize.ShloMosaic

/-- The residual row plus the projection of the two mixers' rows, one over the weight's upper rows, the other over its lower. -/
def hrow (x0 x1 : S8192x1024.Idx → EReal) (x2 : S2048x2048.Idx → EReal) (x3 : S4x2048x2048.Idx → EReal) (r : Fin 8192) (j : Fin 2048) : EReal :=
  x3 (ix3 ⟨r.val / 2048, by omega⟩ ⟨r.val % 2048, by omega⟩ j)
    + (∑ k : Fin 1024, x0 (ix2 r k) * x2 (ix2 ⟨k.val, by omega⟩ j) + ∑ k : Fin 1024, x1 (ix2 r k) * x2 (ix2 ⟨1024 + k.val, by omega⟩ j))

/-- The reference's first result, -/
theorem h_at (x0 x1 : (⟨S8192x1024, .bf16⟩ : BufTy).Contents (Elt Ideal)) (x2 : (⟨S2048x2048, .bf16⟩ : BufTy).Contents (Elt Ideal)) (x3 : (⟨S4x2048x2048, .f32⟩ : BufTy).Contents (Elt Ideal)) (r : Fin 8192) (j : Fin 2048) :
    val_main_v6 (F := Ideal) x0 x1 x2 x3 (ix2 r j) = hrow x0 x1 x2 x3 r j := by
  pointwise [val_main_v6, val_main_v5, val_main_v4, val_main_v3, val_main_v2, val_main_v1, val_main_v0]
  rfl

/-- and its second: the norm of the first's rows. -/
theorem hn_at (x0 x1 : (⟨S8192x1024, .bf16⟩ : BufTy).Contents (Elt Ideal)) (x2 : (⟨S2048x2048, .bf16⟩ : BufTy).Contents (Elt Ideal)) (x3 : (⟨S4x2048x2048, .f32⟩ : BufTy).Contents (Elt Ideal)) (x4 : (⟨S1x2048, .f32⟩ : BufTy).Contents (Elt Ideal)) (r : Fin 8192) (j : Fin 2048) :
    val_main_v21 (F := Ideal) x0 x1 x2 x3 x4 (ix2 r j)
      = hrow x0 x1 x2 x3 r j * Ideal.rsqrt (Ideal.div (∑ k : Fin 2048, hrow x0 x1 x2 x3 r k * hrow x0 x1 x2 x3 r k) (Ideal.ofBits FTy.f32 0x45000000#32)
          + Ideal.ofBits FTy.f32 0x358637BD#32) * x4 (ix2 0 j) := by
  have e := h_at x0 x1 x2 x3 r
  simp only [← e]
  unfold val_main_v21 val_main_v20 val_main_v17 val_main_v16 val_main_v15 val_main_v14 val_main_v12 val_main_v10 val_main_v9 val_main_v8
  generalize val_main_v6 (F := Ideal) x0 x1 x2 x3 = y
  pointwise [val_main_v19, val_main_v18, val_main_v13, val_main_v11, val_main_v7, val_main_cst, val_main_cst_0, val_main_cst_1]

end Cert.OutProjRefIdeal.Value

end
-- ==== Proof.OutProjPoint.lean ====
/- What the out-projection kernel leaves in its two results. -/
module

public import proofs.«01_k».proof.Proof.Gen.OutProjIdeal.Value
public import proofs.«01_k».proof.Proof.OutProjRefAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.OutProjIdeal.Value

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] :=
  (by decide +kernel : ∀ t : Fin grid0.N, _)

/-- The row of the batch that row `r` of point `t`'s blocks is. -/
def row (t : Fin cfg0.N) (r : Fin 512) : Fin 8192 :=
  ⟨t.val * 512 + r.val, by have := lt_of_lt_of_eq t.isLt N_0; omega⟩

/-- The arguments. -/
abbrev oa (c : Dev nD) : S8192x1024.Idx → EReal := m ((c : Thread nD τ).loc main_arg0)
abbrev ob (c : Dev nD) : S8192x1024.Idx → EReal := m ((c : Thread nD τ).loc main_arg1)
abbrev wo (c : Dev nD) : S2048x2048.Idx → EReal := m ((c : Thread nD τ).loc main_arg2)
abbrev xx (c : Dev nD) : S4x2048x2048.Idx → EReal := m ((c : Thread nD τ).loc main_arg3)
abbrev gn (c : Dev nD) : S1x2048.Idx → EReal := m ((c : Thread nD τ).loc main_arg4)

open Cert.OutProjRefIdeal.Value (hrow)

theorem pay1 (v0 v1 : Vec Ideal S512x1024 .bf16) (v3 : Vec Ideal S512x2048 .f32) (v5 : Vec Ideal S2048x2048 .bf16) (r : Fin 512) (j : Fin 2048) :
    k0_pay1 (F := Ideal) v0 v1 v3 v5 (ix2 r j)
      = v3 (ix2 r j) + (∑ k : Fin 1024, v0 (ix2 r k) * v5 (ix2 ⟨k.val, by omega⟩ j) + ∑ k : Fin 1024, v1 (ix2 r k) * v5 (ix2 ⟨1024 + k.val, by omega⟩ j)) := by
  pointwise [k0_pay1]

theorem pay2 (v0 v1 : Vec Ideal S512x1024 .bf16) (v3 : Vec Ideal S512x2048 .f32) (v5 : Vec Ideal S2048x2048 .bf16) (v9 : Vec Ideal S1x2048 .f32) (r : Fin 512) (j : Fin 2048) :
    k0_pay2 (F := Ideal) v0 v1 v3 v5 v9 (ix2 r j) = k0_pay1 (F := Ideal) v0 v1 v3 v5 (ix2 r j) * Ideal.rsqrt (Ideal.div (∑ q : Fin 2048, k0_pay1 (F := Ideal) v0 v1 v3 v5 (ix2 r q) * k0_pay1 (F := Ideal) v0 v1 v3 v5 (ix2 r q)) (Ideal.ofBits FTy.f32 0x45000000#32) + Ideal.ofBits FTy.f32 0x358637BD#32) * v9 (ix2 0 j) := by
  unfold k0_pay2
  generalize k0_pay1 (F := Ideal) v0 v1 v3 v5 = y
  pointwise []

/-- A row of a block, before the norm. -/
theorem row_eq (c : Dev nD) (t : Fin cfg0.N) (r : Fin 512) (j : Fin 2048) :
    k0_pay1 (F := Ideal) (iblk m c 0 t) (iblk m c 1 t) (iblk m c 3 t) (iblk m c 2 t) (ix2 r j) = hrow (oa m c) (ob m c) (wo m c) (xx m c) (row t r) j := by
  have a0 : ∀ k : Fin 1024, iblk m c 0 t (ix2 r k) = oa m c (ix2 (row t r) k) := fun k => by blk_point [iblk, V, idx t]; rfl
  have a1 : ∀ k : Fin 1024, iblk m c 1 t (ix2 r k) = ob m c (ix2 (row t r) k) := fun k => by blk_point [iblk, V, idx t]; rfl
  have a2 : ∀ k : Fin 2048, iblk m c 2 t (ix2 k j) = wo m c (ix2 k j) := fun k => by blk_point [iblk, V, idx t]
  have a3 : iblk m c 3 t (ix2 r j) = xx m c (ix3 ⟨(row t r).val / 2048, by omega⟩ ⟨(row t r).val % 2048, by omega⟩ j) := by
    blk_point [iblk, idx t] <;> rfl
  rw [pay1]
  simp only [a0, a1, a2, a3]
  rfl

/-- The first result is the reference's, -/
theorem final_h (c : Dev nD) : (dats m 0 c).arrAt 5 (cfgs 0).N
    = Cert.OutProjRefIdeal.Read.val_main_v6 (F := Ideal) (oa m c) (ob m c) (wo m c) (xx m c) := by
  refine (dats m 0 c).arrAt_eq_of_covers 5 _ (by decide +kernel) fun t _ y => ?_
  blk_simp
  rw [after0_5]
  frame_out
  idx_vars y
  have e : ((cfg0.win 5).blk t).view.emb (ix2 y0 y1) = (ix2 (row t y0) y1 : S8192x2048.Idx) := by
    blk_ext [idx t]
    rfl
  rw [e, Cert.OutProjRefIdeal.Value.h_at, row_eq]

/-- and the second is. -/
theorem final_hn (c : Dev nD) : (dats m 0 c).arrAt 6 (cfgs 0).N
    = Cert.OutProjRefIdeal.Read.val_main_v21 (F := Ideal) (oa m c) (ob m c) (wo m c) (xx m c) (gn m c) := by
  refine (dats m 0 c).arrAt_eq_of_covers 6 _ (by decide +kernel) fun t _ y => ?_
  blk_simp
  rw [after0_6]
  frame_out
  idx_vars y
  have e : ((cfg0.win 6).blk t).view.emb (ix2 y0 y1) = (ix2 (row t y0) y1 : S8192x2048.Idx) := by
    blk_ext [idx t]
    rfl
  have a4 : iblk m c 4 t (ix2 0 y1) = gn m c (ix2 0 y1) := by
    blk_point [iblk, idx t]
  rw [e, Cert.OutProjRefIdeal.Value.hn_at, pay2, a4]
  simp only [row_eq]

end Cert.OutProjIdeal.Value

end
-- ==== Proof.ShiftRefAt.lean ====
/- The plain token-shift rows read at an index. -/
module

public import proofs.«01_k».proof.Proof.Gen.ShiftRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.ShiftRefIdeal.Value

open Cert.ShiftRefIdeal Cert.ShiftRefIdeal.Read Idealize.ShloMosaic

/-- Sequence `b`'s last token, normed: the input row divided by the root of its mean square and scaled. -/
def xn (x0 : S128x4x2048.Idx → EReal) (x2 : S1x2048.Idx → EReal) (b : Fin 128) (k : Fin 2048) : EReal :=
  x0 (ix3 b 3 k) * Ideal.rsqrt (Ideal.div (∑ q : Fin 2048, x0 (ix3 b 3 q) * x0 (ix3 b 3 q)) (Ideal.ofBits FTy.f32 0x45000000#32) + Ideal.ofBits FTy.f32 0x358637BD#32)
    * x2 (ix2 0 k)

/-- The reference: that row times the first columns of the weight. -/
theorem ref_at (x0 : (⟨S128x4x2048, .f32⟩ : BufTy).Contents (Elt Ideal)) (x2 : (⟨S1x2048, .f32⟩ : BufTy).Contents (Elt Ideal)) (x3 : (⟨S1x2048x7456, .f32⟩ : BufTy).Contents (Elt Ideal)) (b : Fin 128) (j : Fin 3360) :
    val_main_v19 (F := Ideal) x0 x2 x3 (ix3 0 b j) = ∑ k : Fin 2048, xn x0 x2 b k * x3 (ix3 0 k ⟨j.val, by omega⟩) := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Cert.ShiftRefIdeal.Value

end
-- ==== Proof.ShiftPoint.lean ====
/- What the token-shift kernel leaves in its result. -/
module

public import proofs.«01_k».proof.Proof.Gen.ShiftIdeal.Frame
public import proofs.«01_k».proof.Proof.ShiftRefAt
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.ShiftIdeal.Value

open Cert.ShiftIdeal Cert.ShiftIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The weight's column that row `j` of point `t`'s blocks is. -/
def col (t : Fin cfg0.N) (j : Fin 896) : Fin 3584 :=
  ⟨t.val * 896 + j.val, by have := lt_of_lt_of_eq t.isLt N_0; omega⟩

/-- The arguments, -/
abbrev xs (c : Dev nD) : S128x4x2048.Idx → EReal := m ((c : Thread nD τ).loc main_arg0)
abbrev mt (c : Dev nD) : S16x2048.Idx → EReal := m ((c : Thread nD τ).loc main_arg1)
abbrev gn (c : Dev nD) : S1x2048.Idx → EReal := m ((c : Thread nD τ).loc main_arg2)
abbrev wi (c : Dev nD) : S1x2048x7456.Idx → EReal := m ((c : Thread nD τ).loc main_arg3)
/-- and the rows the kernel is given: the batch's tokens, the meta tokens and zero rows, one under the other. -/
abbrev rows (c : Dev nD) : S640x2048.Idx → EReal := V m c main_v5

/-- Row `r` of them, normed. -/
def nrow (x : S640x2048.Idx → EReal) (g : S1x2048.Idx → EReal) (r : Fin 640) (k : Fin 2048) : EReal :=
  x (ix2 r k) * Ideal.rsqrt (Ideal.div (∑ q : Fin 2048, x (ix2 r q) * x (ix2 r q)) (Ideal.ofBits FTy.f32 0x45000000#32) + Ideal.ofBits FTy.f32 0x358637BD#32) * g (ix2 0 k)

theorem pay1 (v9 : Vec Ideal S640x2048 .f32) (v11 : Vec Ideal S1x2048 .f32) (r : Fin 640) (k : Fin 2048) :
    k0_pay1 (F := Ideal) v9 v11 (ix2 r k) = nrow v9 v11 r k := by
  pointwise [k0_pay1, nrow]

theorem pay2 (v3 : Vec Ideal S896x2048 .f32) (v5 : Vec Ideal S640x2048 .bf16) (j : Fin 896) (r : Fin 640) :
    k0_pay2 (F := Ideal) v3 v5 (ix2 j r) = ∑ k : Fin 2048, v3 (ix2 j k) * v5 (ix2 r k) := by
  pointwise [k0_pay2]

/-- What the region finds in the weight's buffer, the norm scale's and the rows'. -/
theorem V_w (c : Dev nD) : V m c main_v1 = transpose S7456x2048 [1, 0] (shapeCast S2048x7456 (wi m c) shapeCasts_S1x2048x7456_S2048x7456) transposes_S2048x7456_S7456x2048_1_0 := by
  show StableHlo.after (List.flatten [hostOps0]) (fun b => m (c, b)) (Proc.devRef .tc main_v1) = _
  simp only [hostOps0, List.flatten_cons, List.flatten_nil, List.append_nil]
  after_results
  rfl

theorem V_gn (c : Dev nD) : V m c main_v7 = shapeCast S1x2048 (shapeCast S2048 (gn m c) shapeCasts_S1x2048_S2048) shapeCasts_S2048_S1x2048 := by
  show StableHlo.after (List.flatten [hostOps0]) (fun b => m (c, b)) (Proc.devRef .tc main_v7) = _
  simp only [hostOps0, List.flatten_cons, List.flatten_nil, List.append_nil]
  after_results
  rfl

theorem V_rows (c : Dev nD) : rows m c = concatenate S640x2048 0 [⟨S512x2048, shapeCast S512x2048 (transpose S4x128x2048 [1, 0, 2] (xs m c) transposes_S128x4x2048_S4x128x2048_1_0_2) shapeCasts_S4x128x2048_S512x2048⟩, ⟨S16x2048, mt m c⟩, ⟨S112x2048, V m c main_v4⟩] concatenates_S512x2048_S16x2048_S112x2048_S640x2048_d0 := by
  show StableHlo.after (List.flatten [hostOps0]) (fun b => m (c, b)) (Proc.devRef .tc main_v5) = _
  simp only [hostOps0, List.flatten_cons, List.flatten_nil, List.append_nil]
  after_results
  rfl

/-- The weight's block read at an index: a row of the weight's transpose. -/
theorem w_at (c : Dev nD) (t : Fin cfg0.N) (j : Fin 896) (k : Fin 2048) :
    X0_0 m c t (ix2 j k : S896x2048.Idx) = wi m c (ix3 0 k ⟨(col t j).val, by omega⟩) := by
  unfold X0_0 Pipeline.Window.fill
  rw [dif_pos (moved0_0 t _)]
  have hb := lt_of_lt_of_eq t.isLt N_0
  have e : ((cfg0.win 0).blk t).view.emb (fun a => ⟨((ix2 j k : S896x2048.Idx) a).val, ((cfg0.win 0).moved_iff _ _).mp (moved0_0 t _) a⟩) = (ix2 ⟨(col t j).val, by omega⟩ k : S7456x2048.Idx) := by
    blk_ext [idx t] <;> rfl
  show V m c main_v1 (((cfg0.win 0).blk t).view.emb _) = _
  rw [V_w]
  refine (congrArg _ e).trans ?_
  pointwise

/-- The rows' block is the whole of them, -/
theorem in_at (c : Dev nD) (t : Fin cfg0.N) (r : Fin 640) (k : Fin 2048) : iblk m c 1 t (ix2 r k : S640x2048.Idx) = rows m c (ix2 r k) := by
  have e : ((cfg0.win 1).blk t).view.emb (ix2 r k) = (ix2 r k : S640x2048.Idx) := by blk_ext [idx t] <;> rfl
  exact congrArg (V m c main_v5) e

/-- and the norm scale's block the whole scale. -/
theorem gn_at (c : Dev nD) (t : Fin cfg0.N) (k : Fin 2048) : iblk m c 2 t (ix2 0 k : S1x2048.Idx) = gn m c (ix2 0 k) := by
  have e : ((cfg0.win 2).blk t).view.emb (ix2 0 k) = (ix2 0 k : S1x2048.Idx) := by blk_ext [idx t] <;> rfl
  refine (congrArg (V m c main_v7) e).trans ?_
  rw [V_gn]
  pointwise

/-- The rows normed at a point. -/
theorem norm_eq (c : Dev nD) (t : Fin cfg0.N) (r : Fin 640) (k : Fin 2048) :
    k0_pay1 (F := Ideal) (iblk m c 1 t) (iblk m c 2 t) (ix2 r k) = nrow (rows m c) (gn m c) r k := by
  rw [pay1]
  unfold nrow
  simp only [in_at, gn_at]

theorem scr_A (c : Dev nD) (t : Fin cfg0.N) (h : t.val % 4 = 0) : (outsAt0 m c t.val t.isLt).2 = k0_pay1 (F := Ideal) (iblk m c 1 t) (iblk m c 2 t) := by
  rw [outsAt0_A m c t h]
  frame_out

theorem scr_B (c : Dev nD) (t : Fin cfg0.N) (h : ¬ t.val % 4 = 0) :
    (outsAt0 m c t.val t.isLt).2 = (outsAt0 m c (t.val - 1) (Nat.lt_of_le_of_lt (Nat.sub_le _ _) t.isLt)).2 := by
  rw [outsAt0_B m c t h]
  rfl

/-- The scratch holds the normed rows at every point. -/
theorem scr_eq (c : Dev nD) (r : Fin 640) (k : Fin 2048) : ∀ (n : ℕ) (h : n < cfg0.N), (outsAt0 m c n h).2 (ix2 r k) = nrow (rows m c) (gn m c) r k := by
  intro n
  induction n with
  | zero => intro h; rw [scr_A m c ⟨0, h⟩ rfl, norm_eq]
  | succ n ih =>
    intro h
    by_cases h0 : (n + 1) % 4 = 0
    · rw [scr_A m c ⟨n + 1, h⟩ h0, norm_eq]
    · rw [scr_B m c ⟨n + 1, h⟩ h0]
      exact ih _

/-- The block written back is the weight's block times the scratch, transposed. -/
theorem out_eq (c : Dev nD) (t : Fin cfg0.N) : (outsAt0 m c t.val t.isLt).1 = k0_pay2 (F := Ideal) (X0_0 m c t) (outsAt0 m c t.val t.isLt).2 := by
  by_cases h : t.val % 4 = 0
  · rw [outsAt0_A m c t h]
    frame_out
  · rw [scr_B m c t h, outsAt0_B m c t h]
    frame_out
    rw [read_unread_whole]

/-- The array the kernel writes: the weight's columns times the normed rows. -/
def G (c : Dev nD) : S3584x640.Idx → EReal :=
  fun i => ∑ k : Fin 2048, wi m c (ix3 0 k ⟨(i 0).val, lt_trans (i 0).isLt (by decide)⟩) * nrow (rows m c) (gn m c) (i 1) k

theorem final (c : Dev nD) : (dats m 0 c).arrAt 3 (cfgs 0).N = G m c := by
  refine (dats m 0 c).arrAt_eq_of_covers 3 _ (by decide +kernel) fun t _ y => ?_
  blk_simp
  rw [after0_3, out_eq]
  idx_vars y
  have e : ((cfg0.win 3).blk t).view.emb (ix2 y0 y1) = (ix2 (col t y0) y1 : S3584x640.Idx) := by
    blk_ext [idx t] <;> rfl
  rw [e, pay2]
  simp only [scr_eq, w_at]
  rfl

/-- Row `384 + b` of the rows given is sequence `b`'s last token. -/
theorem rows_at (c : Dev nD) (b : Fin 128) (k : Fin 2048) : rows m c (ix2 ⟨384 + b.val, by omega⟩ k) = xs m c (ix3 b 3 k) := by
  rw [V_rows]
  pointwise
  rw [dif_pos (by omega)]
  exact congrArg (fun q => xs m c (ix3 b q k)) (Fin.ext (show (384 + b.val) / 128 = 3 by omega))

/-- A row that is a sequence's last token is so normed the reference's normed row. -/
theorem nrow_eq (x : S640x2048.Idx → EReal) (g : S1x2048.Idx → EReal) (y : S128x4x2048.Idx → EReal) (r : Fin 640) (b : Fin 128) (h : ∀ k : Fin 2048, x (ix2 r k) = y (ix3 b 3 k)) (k : Fin 2048) :
    nrow x g r k = Cert.ShiftRefIdeal.Value.xn y g b k := by
  unfold nrow Cert.ShiftRefIdeal.Value.xn
  simp only [h]

/-- The result: the array's first 3360 rows and last 128 columns, transposed. -/
theorem tail_eq (c : Dev nD) : Pipeline.afterTail₀ cfgs (dats m) 0 (V0 m) [hostOps1] c main_v11
    = broadcastInDim S1x128x3360 ![1, 2] bcast_S128x3360_S1x128x3360_1_2 (transpose S128x3360 [1, 0] (extractStridedSlice S3360x128 ![0, 384] (G m c) slices_S3584x640_S3360x128_0_384) transposes_S3360x128_S128x3360_1_0) := by
  unfold Pipeline.afterTail₀
  simp only [hostOps1, List.flatten_cons, List.flatten_nil, List.append_nil]
  after_results
  have e := Pipeline.withArrays_arr spec0 winFacts0.arr_inj c (V0 m c) (fun w => (dats m 0 c).arrAt w (cfgs 0).N) 3
  rw [final m c] at e
  exact congrArg (fun g => broadcastInDim S1x128x3360 ![1, 2] bcast_S128x3360_S1x128x3360_1_2 (transpose S128x3360 [1, 0] (extractStridedSlice S3360x128 ![0, 384] g slices_S3584x640_S3360x128_0_384) transposes_S3360x128_S128x3360_1_0)) e

/-- The kernel's result is the reference's. -/
theorem result (c : Dev nD) : Pipeline.afterTail₀ cfgs (dats m) 0 (V0 m) [hostOps1] c main_v11
    = Cert.ShiftRefIdeal.Read.val_main_v19 (F := Ideal) (xs m c) (gn m c) (wi m c) := by
  rw [tail_eq]
  funext y
  idx_vars y
  obtain rfl : y0 = 0 := Subsingleton.elim _ _
  rw [Cert.ShiftRefIdeal.Value.ref_at]
  pointwise [G]
  exact Finset.sum_congr rfl fun k _ => (mul_comm _ _).trans (congrArg (· * wi m c _) (nrow_eq _ _ _ _ _ (rows_at m c y1) k))

end Cert.ShiftIdeal.Value

end
-- ==== Proof.CallClaims.lean ====
/- The value claims and the references' frames of the projections and the FFN. -/
module

public import proofs.«01_k».proof.Defs
public import proofs.«01_k».proof.Proof.Gen.Layout
public import proofs.«01_k».proof.Proof.Gen.FfnRefIdeal.Run
public import proofs.«01_k».proof.Proof.Gen.InProjRefIdeal.Run
public import proofs.«01_k».proof.Proof.Gen.OutProjRefIdeal.Run
public import proofs.«01_k».proof.Proof.Gen.ShiftRefIdeal.Run
public import proofs.«01_k».proof.Proof.Gen.FfnSRefIdeal.Run
public import proofs.«01_k».proof.Proof.FfnPoint
public import proofs.«01_k».proof.Proof.FfnSPoint
public import proofs.«01_k».proof.Proof.InProjPoint
public import proofs.«01_k».proof.Proof.OutProjPoint
public import proofs.«01_k».proof.Proof.ShiftPoint
public import Idealize.ShloMosaic.Lib.Claim
public import Idealize.ShloMosaic.Adequacy
public import Idealize.ShloMosaic.Init

@[expose] public section

noncomputable section

namespace Cert.Proof

open Idealize.ShloMosaic Idealize.SL.Sem

/-- The FFN's array and the plain reference's are equal at the ideal instance. -/
theorem ffn_algebraic : Cert.algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    rw [Cert.FfnRefIdeal.Read.val_main_v23_eq]
    exact (Cert.FfnIdeal.Value.final m c).symm

/-- The same of the sample batch's FFN. -/
theorem ffns_algebraic : Cert.algebraic_FfnSIdeal_FfnSRefIdeal (hFfnSIdeal := Cert.FfnSIdeal.Gen.facts) (hFfnSRefIdeal := Cert.FfnSRefIdeal.Gen.facts) := by
  pair_intro
  · run_from Cert.FfnSIdeal.Value.run_blocks m g
  · run_from Cert.FfnSRefIdeal.Value.run m' g'
    rw [Cert.FfnSRefIdeal.Read.val_main_v23_eq]
    exact (Cert.FfnSIdeal.Value.final m c).symm

/-- The in-projection's array and the plain reference's are equal at the ideal instance. -/
theorem inproj_algebraic : Cert.algebraic_InProjIdeal_InProjRefIdeal (hInProjIdeal := Cert.InProjIdeal.Gen.facts) (hInProjRefIdeal := Cert.InProjRefIdeal.Gen.facts) := by
  pair_intro
  · run_from Cert.InProjIdeal.Value.run_blocks m g
  · run_from Cert.InProjRefIdeal.Value.run m' g'
    exact (Cert.InProjIdeal.Value.final m c).symm

/-- The out-projection's two arrays and the plain reference's are equal at the ideal instance. -/
theorem outproj_algebraic : Cert.algebraic_OutProjIdeal_OutProjRefIdeal (hOutProjIdeal := Cert.OutProjIdeal.Gen.facts) (hOutProjRefIdeal := Cert.OutProjRefIdeal.Gen.facts) := by
  pair_intro
  · run_from Cert.OutProjIdeal.Value.run_blocks m g
  · run_from Cert.OutProjRefIdeal.Value.run m' g'
    · exact (Cert.OutProjIdeal.Value.final_h m c).symm
    · exact (Cert.OutProjIdeal.Value.final_hn m c).symm

/-- The last tokens' projected rows and the plain reference's are equal at the ideal instance. -/
theorem shift_algebraic : Cert.algebraic_ShiftIdeal_ShiftRefIdeal (hShiftIdeal := Cert.ShiftIdeal.Gen.facts) (hShiftRefIdeal := Cert.ShiftRefIdeal.Gen.facts) := by
  pair_intro
  · run_from Cert.ShiftIdeal.Gen.run_main m g
    · exact Cert.ShiftIdeal.Gen.W_main_arg0 m _ c
    · exact Cert.ShiftIdeal.Gen.W_main_arg1 m _ c
    · exact Cert.ShiftIdeal.Gen.W_main_arg2 m _ c
    · exact Cert.ShiftIdeal.Gen.W_main_arg3 m _ c
  · run_from Cert.ShiftRefIdeal.Value.run m' g'
    exact (Cert.ShiftIdeal.Value.result m c).symm

/-- The plain references run, keep their arguments and end with every counter at zero. -/
theorem ffn_ref_frame : Cert.quiescent_FfnRefIdeal (hFfnRefIdeal := Cert.FfnRefIdeal.Gen.facts) := by
  intro m g _
  exact (θ_run _ _ _).mono (fun r h => ⟨fun c => (h c).2, sem_eq_zero_of_no_sems rfl r.2⟩) (Cert.FfnRefIdeal.Value.run m g)

theorem ffns_ref_frame : Cert.quiescent_FfnSRefIdeal (hFfnSRefIdeal := Cert.FfnSRefIdeal.Gen.facts) := by
  intro m g _
  exact (θ_run _ _ _).mono (fun r h => ⟨fun c => (h c).2, sem_eq_zero_of_no_sems rfl r.2⟩) (Cert.FfnSRefIdeal.Value.run m g)

theorem inproj_ref_frame : Cert.quiescent_InProjRefIdeal (hInProjRefIdeal := Cert.InProjRefIdeal.Gen.facts) := by
  intro m g _
  exact (θ_run _ _ _).mono (fun r h => ⟨fun c => (h c).2, sem_eq_zero_of_no_sems rfl r.2⟩) (Cert.InProjRefIdeal.Value.run m g)

theorem outproj_ref_frame : Cert.quiescent_OutProjRefIdeal (hOutProjRefIdeal := Cert.OutProjRefIdeal.Gen.facts) := by
  intro m g _
  exact (θ_run _ _ _).mono (fun r h => ⟨fun c => (h c).2.2, sem_eq_zero_of_no_sems rfl r.2⟩) (Cert.OutProjRefIdeal.Value.run m g)

theorem shift_ref_frame : Cert.quiescent_ShiftRefIdeal (hShiftRefIdeal := Cert.ShiftRefIdeal.Gen.facts) := by
  intro m g _
  exact (θ_run _ _ _).mono (fun r h => ⟨fun c => (h c).2, sem_eq_zero_of_no_sems rfl r.2⟩) (Cert.ShiftRefIdeal.Value.run m g)

end Cert.Proof

end
-- ==== Proof.RetSRefAt.lean ====
/- The plain retention reference of the sample batch read at an index. -/
module

public import proofs.«01_k».proof.Proof.Gen.RetSRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.RetSRefIdeal.Value

open Cert.RetSRefIdeal Cert.RetSRefIdeal.Read Idealize.ShloMosaic

/-- The row of `z` that token `t` of sequence `b` is, -/
def zrow (b : Fin 128) (t : Fin 4) : Fin 528 := ⟨b.val * 4 + t.val, by omega⟩

/-- the column that channel `d` of head `h` in part `s` (query, key, value, gate) is, -/
def col (s : Fin 4) (h : Fin 4) (d : Fin 256) : Fin 4096 := ⟨s.val * 1024 + h.val * 256 + d.val, by omega⟩

/-- the two channels of the rotary pair of channel `d`, -/
def lo (d : Fin 256) : Fin 256 := ⟨2 * (d.val / 2), by omega⟩
def hi (d : Fin 256) : Fin 256 := ⟨2 * (d.val / 2) + 1, by omega⟩

/-- and the angle's entry in the tables. -/
def ang (t : Fin 4) (d : Fin 256) : S136x128.Idx := ix2 (⟨132 + t.val, by omega⟩ : Fin 136) (⟨d.val / 2, by omega⟩ : Fin 128)

/-- The rotation of a pair: even channels the first formula, odd channels the second. -/
def rotate (x0 x1 c s : EReal) (d : Fin 256) : EReal := if d.val % 2 = 0 then x0 * c - x1 * s else x0 * s + x1 * c

variable (z : S528x4096.Idx → EReal) (cos sin : S136x128.Idx → EReal) (dm : S4x8x8.Idx → EReal) (is ks : S4x8.Idx → EReal) (ga : S4.Idx → EReal)
  (st : S1x128x4x256x256.Idx → EReal)

/-- Query (`s = 0`) and key (`s = 1`) rotated. -/
def rot (s : Fin 4) (b : Fin 128) (t h : Fin 4) (d : Fin 256) : EReal :=
  rotate (z (ix2 (zrow b t) (col s h (lo d)))) (z (ix2 (zrow b t) (col s h (hi d)))) (cos (ang t d)) (sin (ang t d)) d

theorem rot_even (s : Fin 4) (b : Fin 128) (t h : Fin 4) (d : Fin 256) (r : Fin 528) (a : S136x128.Idx) (c0 c1 : Fin 4096) (hr : r = zrow b t) (ha : a = ang t d) (p : d.val % 2 < 1)
    (h0 : c0.val = s.val * 1024 + h.val * 256 + 2 * (d.val / 2)) (h1 : c1.val = s.val * 1024 + h.val * 256 + (2 * (d.val / 2) + 1)) :
    z (ix2 r c0) * cos a - z (ix2 r c1) * sin a = rot z cos sin s b t h d := by
  obtain rfl : c0 = col s h (lo d) := Fin.ext h0
  obtain rfl : c1 = col s h (hi d) := Fin.ext h1
  subst hr ha
  exact (if_pos (by omega)).symm

theorem rot_odd (s : Fin 4) (b : Fin 128) (t h : Fin 4) (d : Fin 256) (r : Fin 528) (a : S136x128.Idx) (c0 c1 : Fin 4096) (hr : r = zrow b t) (ha : a = ang t d) (p : ¬ d.val % 2 < 1)
    (h0 : c0.val = s.val * 1024 + h.val * 256 + 2 * (d.val / 2)) (h1 : c1.val = s.val * 1024 + h.val * 256 + (2 * (d.val / 2) + 1)) :
    z (ix2 r c0) * sin a + z (ix2 r c1) * cos a = rot z cos sin s b t h d := by
  obtain rfl : c0 = col s h (lo d) := Fin.ext h0
  obtain rfl : c1 = col s h (hi d) := Fin.ext h1
  subst hr ha
  exact (if_neg (by omega)).symm

theorem rot_q (x0 : (⟨S528x4096, .f32⟩ : BufTy).Contents (Elt Ideal)) (x1 x2 : (⟨S136x128, .f32⟩ : BufTy).Contents (Elt Ideal)) (b : Fin 128) (t h : Fin 4) (d : Fin 256) :
    val_main_v30 (F := Ideal) x0 x1 x2 (ix4 b t h d) = rot x0 x1 x2 0 b t h d := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v8, val_main_v7, val_main_v6, val_main_v2, val_main_v1]
  split_ifs with p
  · exact rot_even x0 x1 x2 0 b t h d _ _ _ _ rfl rfl p
      (by show h.val * 256 + 2 * (d.val / 2) = 0 * 1024 + h.val * 256 + 2 * (d.val / 2); omega)
      (by show h.val * 256 + (1 + 2 * (d.val / 2)) = 0 * 1024 + h.val * 256 + (2 * (d.val / 2) + 1); omega)
  all_goals refine rot_odd x0 x1 x2 0 b t h d _ _ _ _ rfl rfl p ?_ ?_
  all_goals first | (show h.val * 256 + 2 * (d.val / 2) = 0 * 1024 + h.val * 256 + 2 * (d.val / 2); omega) | (show h.val * 256 + (1 + 2 * (d.val / 2)) = 0 * 1024 + h.val * 256 + (2 * (d.val / 2) + 1); omega)

theorem rot_k (x0 : (⟨S528x4096, .f32⟩ : BufTy).Contents (Elt Ideal)) (x1 x2 : (⟨S136x128, .f32⟩ : BufTy).Contents (Elt Ideal)) (b : Fin 128) (t h : Fin 4) (d : Fin 256) :
    val_main_v51 (F := Ideal) x0 x1 x2 (ix4 b t h d) = rot x0 x1 x2 1 b t h d * Ideal.ofBits FTy.f32 0x3D800000#32 := by
  pointwise [val_main_v51, val_main_v50, val_main_cst, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v9, val_main_v7, val_main_v6, val_main_v2, val_main_v1]
  refine congrArg (· * Ideal.ofBits FTy.f32 0x3D800000#32) ?_
  split_ifs with p
  · exact rot_even x0 x1 x2 1 b t h d _ _ _ _ rfl rfl p
      (by show 1024 + (h.val * 256 + 2 * (d.val / 2)) = 1 * 1024 + h.val * 256 + 2 * (d.val / 2); omega)
      (by show 1024 + (h.val * 256 + (1 + 2 * (d.val / 2))) = 1 * 1024 + h.val * 256 + (2 * (d.val / 2) + 1); omega)
  all_goals refine rot_odd x0 x1 x2 1 b t h d _ _ _ _ rfl rfl p ?_ ?_
  all_goals first | (show 1024 + (h.val * 256 + 2 * (d.val / 2)) = 1 * 1024 + h.val * 256 + 2 * (d.val / 2); omega) | (show 1024 + (h.val * 256 + (1 + 2 * (d.val / 2))) = 1 * 1024 + h.val * 256 + (2 * (d.val / 2) + 1); omega)

/-- The value (`s = 2`) and the gate (`s = 3`). -/
theorem z_intro (s : Fin 4) (b : Fin 128) (t h : Fin 4) (d : Fin 256) (r : Fin 528) (c0 : Fin 4096) (hr : r = zrow b t) (h0 : c0.val = s.val * 1024 + h.val * 256 + d.val) :
    z (ix2 r c0) = z (ix2 (zrow b t) (col s h d)) := by
  obtain rfl : c0 = col s h d := Fin.ext h0
  subst hr
  rfl

theorem at_v (x0 : (⟨S528x4096, .f32⟩ : BufTy).Contents (Elt Ideal)) (b : Fin 128) (t h : Fin 4) (d : Fin 256) :
    val_main_v52 (F := Ideal) x0 (ix4 b t h d) = x0 (ix2 (zrow b t) (col 2 h d)) := by
  pointwise [val_main_v52, val_main_v10, val_main_v7, val_main_v6]
  refine z_intro x0 2 b t h d _ _ rfl ?_
  show 2048 + (h.val * 256 + d.val) = 2 * 1024 + h.val * 256 + d.val
  omega

/-- Token `t` of the last four among the tables' eight. -/
def last4 (t : Fin 4) : Fin 8 := ⟨4 + t.val, by omega⟩

/-- The key of the layer: rotated and scaled. -/
def key (b : Fin 128) (t h : Fin 4) (d : Fin 256) : EReal := rot z cos sin 1 b t h d * Ideal.ofBits FTy.f32 0x3D800000#32

/-- The new state. -/
def newState (b : Fin 128) (h : Fin 4) (d e : Fin 256) : EReal :=
  ga (ix1 h) * st (ix5 0 b h d e) + ∑ t : Fin 4, key z cos sin b t h d * ks (ix2 h (last4 t)) * z (ix2 (zrow b t) (col 2 h e))

/-- The output before its norm. -/
def pre (b : Fin 128) (t h : Fin 4) (e : Fin 256) : EReal :=
  (∑ j : Fin 4, (∑ d : Fin 256, rot z cos sin 0 b t h d * key z cos sin b j h d) * dm (ix3 h (last4 t) (last4 j)) * z (ix2 (zrow b j) (col 2 h e)))
    + (∑ d : Fin 256, rot z cos sin 0 b t h d * st (ix5 0 b h d e)) * is (ix2 h (last4 t))

theorem state_at (x0 : (⟨S528x4096, .f32⟩ : BufTy).Contents (Elt Ideal)) (x1 x2 : (⟨S136x128, .f32⟩ : BufTy).Contents (Elt Ideal)) (x5 : (⟨S4x8, .f32⟩ : BufTy).Contents (Elt Ideal))
    (x6 : (⟨S4, .f32⟩ : BufTy).Contents (Elt Ideal)) (x7 : (⟨S1x128x4x256x256, .f32⟩ : BufTy).Contents (Elt Ideal)) (b : Fin 128) (h : Fin 4) (d e : Fin 256) :
    val_main_v73 (F := Ideal) x0 x1 x2 x5 x6 x7 (ix4 b h d e) = newState x0 x1 x2 x5 x6 x7 b h d e := by
  pointwise [val_main_v73, val_main_v72, val_main_v71, val_main_v70, val_main_v69, val_main_v68, val_main_v67, val_main_v66, val_main_v65, val_main_v5, val_main_v0]
  simp only [rot_k, at_v]
  rfl

theorem pre_at (x0 : (⟨S528x4096, .f32⟩ : BufTy).Contents (Elt Ideal)) (x1 x2 : (⟨S136x128, .f32⟩ : BufTy).Contents (Elt Ideal)) (x3 : (⟨S4x8x8, .f32⟩ : BufTy).Contents (Elt Ideal)) (x4 : (⟨S4x8, .f32⟩ : BufTy).Contents (Elt Ideal))
    (x7 : (⟨S1x128x4x256x256, .f32⟩ : BufTy).Contents (Elt Ideal)) (b : Fin 128) (t h : Fin 4) (e : Fin 256) :
    val_main_v74 (F := Ideal) x0 x1 x2 x3 x4 x7 (ix4 b t h e) = pre x0 x1 x2 x3 x4 x7 b t h e := by
  pointwise [val_main_v74, val_main_v64, val_main_v63, val_main_v62, val_main_v61, val_main_v60, val_main_v59, val_main_v58, val_main_v57, val_main_v56, val_main_v55, val_main_v54, val_main_v53, val_main_v4, val_main_v3, val_main_v0]
  simp only [rot_q, rot_k, at_v]
  unfold pre
  congr 1
  · exact Finset.sum_congr rfl fun j _ => mul_comm _ _
  · exact congrArg (· * x4 (ix2 h (last4 t))) (Finset.sum_congr rfl fun j _ => mul_comm _ _)

/-- The output: each head's row over its mean square's root, times the gate. -/
def out (b : Fin 128) (t h : Fin 4) (e : Fin 256) : EReal :=
  pre z cos sin dm is st b t h e * Ideal.rsqrt (Ideal.div (∑ k : Fin 256, pre z cos sin dm is st b t h k * pre z cos sin dm is st b t h k) (Ideal.ofBits FTy.f32 0x43800000#32)
      + Ideal.ofBits FTy.f32 0x358637BD#32)
    * (z (ix2 (zrow b t) (col 3 h e)) * Ideal.div 1 (1 + Ideal.exp (-z (ix2 (zrow b t) (col 3 h e)))))

/-- The row and column of the result where token `t` of sequence `b` and channel `e` of head `h` stand. -/
def orow (b : Fin 128) (t : Fin 4) : Fin 512 := ⟨b.val * 4 + t.val, by omega⟩
def ocol (h : Fin 4) (e : Fin 256) : Fin 1024 := ⟨h.val * 256 + e.val, by omega⟩

theorem gate_col (h : Fin 4) (e : Fin 256) {p : 3072 + (h.val * 256 + e.val) < 4096} : (⟨3072 + (h.val * 256 + e.val), p⟩ : Fin 4096) = col 3 h e :=
  Fin.ext (by show 3072 + (h.val * 256 + e.val) = 3 * 1024 + h.val * 256 + e.val; omega)

theorem out_at (x0 : (⟨S528x4096, .f32⟩ : BufTy).Contents (Elt Ideal)) (x1 x2 : (⟨S136x128, .f32⟩ : BufTy).Contents (Elt Ideal)) (x3 : (⟨S4x8x8, .f32⟩ : BufTy).Contents (Elt Ideal)) (x4 : (⟨S4x8, .f32⟩ : BufTy).Contents (Elt Ideal))
    (x7 : (⟨S1x128x4x256x256, .f32⟩ : BufTy).Contents (Elt Ideal)) (b : Fin 128) (t h : Fin 4) (e : Fin 256) :
    val_main_v89 (F := Ideal) x0 x1 x2 x3 x4 x7 (ix2 (orow b t) (ocol h e)) = out x0 x1 x2 x3 x4 x7 b t h e := by
  pointwise [val_main_v89, val_main_v88, val_main_v87, val_main_v86, val_main_call0_v5, val_main_call0_v4, val_main_call0_v3, val_main_call0_v2, val_main_call0_v1, val_main_call0_v0, val_main_call0_cst, val_main_call0_cst_0,
    val_main_v85, val_main_v84, val_main_v83, val_main_v82, val_main_v81, val_main_v80, val_main_v79, val_main_v78, val_main_v77, val_main_v76, val_main_v75, val_main_cst_0, val_main_cst_1, val_main_cst_2, val_main_v11, val_main_v7, val_main_v6, orow, ocol]
  rw [gate_col h e]
  simp only [pre_at]
  rfl

end Cert.RetSRefIdeal.Value

end
-- ==== Proof.RetSLoad.lean ====
/- How the retention kernel's body loads its operands for the sample batch: the four real tokens of each sequence
   placed in the last four of its chunk's eight rows, the first two operands rotated in pairs of columns. -/
module

public import proofs.«01_k».proof.Proof.Gen.RetSIdeal.Frame
public import proofs.«01_k».proof.Proof.RetSRefAt
public import Idealize.ShloMosaic.Lib.Pipeline.ValueKit
public import Idealize.ShloMosaic.Lib.Pointwise
public import Idealize.ShloMosaic.Lib.Claim

@[expose] public section

set_option maxRecDepth 16384

noncomputable section

namespace Cert.RetSIdeal.Value

open Cert.RetSRefIdeal.Value (lo hi last4 ocol)
open Cert.RetSIdeal Cert.RetSIdeal.Gen Idealize.ShloMosaic Idealize.ShloMosaic.TcCoe Idealize.SL.Sem

/-- The mask of the rows and tokens that belong together, -/
def msk : IVec S64x32 1 :=
  k0_pay7 (iota .tc S64x32 32 [0] iota_S64x32_d0_w32) (iota .tc S64x32 32 [1] iota_S64x32_d1_w32) k0_pay2 k0_pay3 k0_pay4 k0_pay5 k0_pay6

/-- and the matrix with a one there and zeros elsewhere. -/
def plc : FVec Ideal S64x32 .bf16 := k0_pay10 (F := Ideal) msk (k0_pay8 (F := Ideal)) (k0_pay9 (F := Ideal))

theorem msk_at (r : Fin 64) (j : Fin 32) : msk (ix2 r j) = if r.val / 8 = j.val / 4 ∧ r.val % 8 = 4 + j.val % 4 then 1#1 else 0#1 := by
  pointwise [msk, k0_pay7, k0_pay2, k0_pay3, k0_pay4, k0_pay5, k0_pay6]
  revert r j
  decide +kernel

theorem plc_at (r : Fin 64) (j : Fin 32) : plc (ix2 r j) = if r.val / 8 = j.val / 4 ∧ r.val % 8 = 4 + j.val % 4 then (1 : EReal) else 0 := by
  pointwise [plc, k0_pay10, k0_pay8, k0_pay9]
  rw [msk_at]
  split_ifs <;> rfl

/-- The mask of the even columns. -/
theorem even_at (r : Fin 64) (j : Fin 1024) : k0_pay11 (ix2 r j) = if j.val % 2 = 0 then 1#1 else 0#1 := by
  pointwise [k0_pay11]
  clear r
  revert j
  decide +kernel

/-- Row `i` of chunk `ch`'s eight rows, and token `t` of its four. -/
def prow (ch : Fin 8) (i : Fin 8) : Fin 64 := ⟨ch.val * 8 + i.val, by omega⟩
def srow (ch : Fin 8) (t : Fin 4) : Fin 32 := ⟨ch.val * 4 + t.val, by omega⟩

theorem plc_pad (ch i : Fin 8) (j : Fin 32) (hi : i.val < 4) : plc (ix2 (prow ch i) j) = 0 := by
  rw [plc_at, if_neg]
  intro h
  have : (prow ch i).val = ch.val * 8 + i.val := rfl
  omega

theorem plc_same (ch : Fin 8) (t : Fin 4) : plc (ix2 (prow ch (last4 t)) (srow ch t)) = 1 := by
  rw [plc_at, if_pos]
  have h1 : (prow ch (last4 t)).val = ch.val * 8 + (4 + t.val) := rfl
  have h2 : (srow ch t).val = ch.val * 4 + t.val := rfl
  omega

theorem plc_col (ch : Fin 8) (t : Fin 4) (j : Fin 32) (h : j ≠ srow ch t) : plc (ix2 (prow ch (last4 t)) j) = 0 := by
  rw [plc_at, if_neg]
  intro e
  have h1 : (prow ch (last4 t)).val = ch.val * 8 + (4 + t.val) := rfl
  have h2 : (srow ch t).val = ch.val * 4 + t.val := rfl
  exact h (Fin.ext (by omega))

theorem plc_row (ch : Fin 8) (t : Fin 4) (r : Fin 64) (h : r ≠ prow ch (last4 t)) : plc (ix2 r (srow ch t)) = 0 := by
  rw [plc_at, if_neg]
  intro e
  have h1 : (prow ch (last4 t)).val = ch.val * 8 + (4 + t.val) := rfl
  have h2 : (srow ch t).val = ch.val * 4 + t.val := rfl
  exact h (Fin.ext (by omega))

/-- A row of the matrix against a column: nothing at the first four rows of a chunk, the row's token at the others. -/
theorem sum_pad (ch i : Fin 8) (hi : i.val < 4) (f : Fin 32 → EReal) : ∑ k : Fin 32, plc (ix2 (prow ch i) k) * f k = 0 :=
  Finset.sum_eq_zero fun k _ => by rw [plc_pad ch i k hi, zero_mul]

theorem sum_real (ch : Fin 8) (t : Fin 4) (f : Fin 32 → EReal) : ∑ k : Fin 32, plc (ix2 (prow ch (last4 t)) k) * f k = f (srow ch t) := by
  rw [Finset.sum_eq_single (srow ch t) (fun k _ hk => by rw [plc_col ch t k hk, zero_mul]) (fun h => absurd (Finset.mem_univ _) h), plc_same, one_mul]

/-- A column of it against a row: the row where the token was placed. -/
theorem sum_back (ch : Fin 8) (t : Fin 4) (f : Fin 64 → EReal) : ∑ r : Fin 64, plc (ix2 r (srow ch t)) * f r = f (prow ch (last4 t)) := by
  rw [Finset.sum_eq_single (prow ch (last4 t)) (fun k _ hk => by rw [plc_row ch t k hk, zero_mul]) (fun h => absurd (Finset.mem_univ _) h), plc_same, one_mul]

/-- A load: the placed rows as the sum of the rounded rows, the rest rounded, and the rest of that. -/
def load (x : Vec Ideal S32x1024 .f32) (r : Fin 64) (j : Fin 1024) : EReal :=
  ∑ k : Fin 32, plc (ix2 r k) * x (ix2 k j) + ∑ k : Fin 32, plc (ix2 r k) * (x (ix2 k j) - x (ix2 k j))
    + ∑ k : Fin 32, plc (ix2 r k) * (x (ix2 k j) - x (ix2 k j) - (x (ix2 k j) - x (ix2 k j)))

theorem load_pad (x : Vec Ideal S32x1024 .f32) (ch i : Fin 8) (j : Fin 1024) (hi : i.val < 4) : load x (prow ch i) j = 0 := by
  unfold load
  rw [sum_pad ch i hi, sum_pad ch i hi, sum_pad ch i hi, add_zero, add_zero]

theorem load_real (x : Vec Ideal S32x1024 .f32) (hx : ∀ k j, x (ix2 k j) - x (ix2 k j) = (0 : EReal)) (ch : Fin 8) (t : Fin 4) (j : Fin 1024) :
    load x (prow ch (last4 t)) j = x (ix2 (srow ch t) j) := by
  unfold load
  rw [sum_real, sum_real, sum_real, hx, sub_zero, add_zero, add_zero]

theorem pay14_at (x : Vec Ideal S32x1024 .f32) (r : Fin 64) (j : Fin 1024) : k0_pay14 (F := Ideal) msk (k0_pay8 (F := Ideal)) (k0_pay9 (F := Ideal)) x (ix2 r j) = load x r j := by
  show _ = load x r j
  unfold load
  pointwise [k0_pay14, plc]

theorem pay19_at (x : Vec Ideal S32x1024 .f32) (r : Fin 64) (j : Fin 1024) : k0_pay19 (F := Ideal) plc x (ix2 r j) = load x r j := by
  unfold load
  pointwise [k0_pay19]

theorem pay24_at (x : Vec Ideal S32x1024 .f32) (r : Fin 64) (j : Fin 1024) :
    k0_pay24 (F := Ideal) plc (k0_pay20 (F := Ideal) x) (k0_pay22 (F := Ideal) x) (k0_pay23 (F := Ideal) x) (ix2 r j) = load x r j := by
  unfold load
  pointwise [k0_pay24, k0_pay20, k0_pay21, k0_pay22, k0_pay23]

/-- A table's columns repeated for each head. -/
theorem pay12_at (x : Vec Ideal S64x256 .f32) (r : Fin 64) (h : Fin 4) (e : Fin 256) : k0_pay12 (F := Ideal) x (ix2 r (ocol h e)) = x (ix2 r e) := by
  pointwise [k0_pay12, ocol]
  split_ifs <;> exact congrArg x ((ix2_inj ..).2 ⟨rfl, Fin.ext (by dsimp only; omega)⟩)

theorem pay13_at (x : Vec Ideal S64x256 .f32) (r : Fin 64) (h : Fin 4) (e : Fin 256) : k0_pay13 (F := Ideal) x (ix2 r (ocol h e)) = x (ix2 r e) :=
  pay12_at x r h e

/-- A pair of neighbouring columns rotated, each with its partner. -/
def turn (x : Fin 1024 → EReal) (c s : EReal) (h : Fin 4) (e : Fin 256) : EReal :=
  if e.val % 2 = 0 then x (ocol h (lo e)) * c + x (ocol h (hi e)) * s else x (ocol h (hi e)) * c + x (ocol h (lo e)) * s

theorem turn_intro (x : Fin 1024 → EReal) (c s : EReal) (h : Fin 4) (e : Fin 256) (p q : Fin 1024) (b : BitVec 1) (hb : b = if (ocol h e).val % 2 = 0 then 1#1 else 0#1)
    (hp : p.val = ((ocol h e).val + 1024 - 1023) % 1024) (hq : q.val = ((ocol h e).val + 1024 - 1) % 1024) :
    x (ocol h e) * c + Scalar.select b (x p) (x q) * s = turn x c s h e := by
  have ho : (ocol h e).val = h.val * 256 + e.val := rfl
  have hl : (ocol h (lo e)).val = h.val * 256 + 2 * (e.val / 2) := rfl
  have hh : (ocol h (hi e)).val = h.val * 256 + (2 * (e.val / 2) + 1) := rfl
  unfold turn
  by_cases g : e.val % 2 = 0
  · rw [if_pos g, show ocol h e = ocol h (lo e) from Fin.ext (by omega), show p = ocol h (hi e) from Fin.ext (by omega), hb, if_pos (by omega)]
    rfl
  · rw [if_neg g, show ocol h e = ocol h (hi e) from Fin.ext (by omega), show q = ocol h (lo e) from Fin.ext (by omega), hb, if_neg (by omega)]
    rfl

/-- The first operand as loaded, -/
def qv (x : Vec Ideal S32x1024 .f32) (c s : Vec Ideal S64x256 .f32) : FVec Ideal S64x1024 .f32 :=
  k0_pay17 (F := Ideal) k0_pay11 (k0_pay12 (F := Ideal) c) (k0_pay13 (F := Ideal) s) (k0_pay14 (F := Ideal) msk (k0_pay8 (F := Ideal)) (k0_pay9 (F := Ideal)) x)
    (k0_pay15 (F := Ideal) msk (k0_pay8 (F := Ideal)) (k0_pay9 (F := Ideal)) x) (k0_pay16 (F := Ideal) msk (k0_pay8 (F := Ideal)) (k0_pay9 (F := Ideal)) x)

/-- the second, -/
def kv (x : Vec Ideal S32x1024 .f32) (c s : Vec Ideal S64x256 .f32) : FVec Ideal S64x1024 .f32 :=
  k0_pay18 (F := Ideal) plc k0_pay11 (k0_pay12 (F := Ideal) c) (k0_pay13 (F := Ideal) s) x

/-- the third, -/
def vv (x : Vec Ideal S32x1024 .f32) : FVec Ideal S64x1024 .f32 := k0_pay19 (F := Ideal) plc x

/-- and the gate. -/
def gv (x : Vec Ideal S32x1024 .f32) : FVec Ideal S64x1024 .f32 :=
  k0_pay24 (F := Ideal) plc (k0_pay20 (F := Ideal) x) (k0_pay22 (F := Ideal) x) (k0_pay23 (F := Ideal) x)

theorem qv_turn (x : Vec Ideal S32x1024 .f32) (c s : Vec Ideal S64x256 .f32) (r : Fin 64) (h : Fin 4) (e : Fin 256) :
    qv x c s (ix2 r (ocol h e)) = turn (load x r) (c (ix2 r e)) (s (ix2 r e)) h e := by
  pointwise [qv, k0_pay17, k0_pay15, k0_pay16]
  rw [pay12_at, pay13_at, pay14_at, pay14_at, pay14_at]
  exact turn_intro (load x r) _ _ h e _ _ _ (even_at r _) rfl rfl

theorem kv_turn (x : Vec Ideal S32x1024 .f32) (c s : Vec Ideal S64x256 .f32) (r : Fin 64) (h : Fin 4) (e : Fin 256) :
    kv x c s (ix2 r (ocol h e)) = turn (load x r) (c (ix2 r e)) (s (ix2 r e)) h e * Ideal.ofBits FTy.f32 0x3D800000#32 := by
  pointwise [kv, k0_pay18]
  rw [pay12_at, pay13_at]
  exact congrArg (· * Ideal.ofBits FTy.f32 0x3D800000#32) (turn_intro (load x r) _ _ h e _ _ _ (even_at r _) rfl rfl)

/-- At a chunk's first four rows the second and third operand are zero, -/
theorem kv_pad (x : Vec Ideal S32x1024 .f32) (c s : Vec Ideal S64x256 .f32) (ch i : Fin 8) (hi : i.val < 4) (h : Fin 4) (e : Fin 256) :
    kv x c s (ix2 (prow ch i) (ocol h e)) = 0 := by
  rw [kv_turn]
  unfold turn
  split_ifs <;> rw [load_pad x ch i _ hi, load_pad x ch i _ hi, zero_mul, zero_mul, add_zero, zero_mul]

theorem vv_pad (x : Vec Ideal S32x1024 .f32) (ch i : Fin 8) (hi : i.val < 4) (j : Fin 1024) : vv x (ix2 (prow ch i) j) = 0 :=
  (pay19_at x _ j).trans (load_pad x ch i j hi)

variable {x : Vec Ideal S32x1024 .f32} (hx : ∀ k j, x (ix2 k j) - x (ix2 k j) = (0 : EReal))

include hx

/-- and at the other four they are the tokens'. -/
theorem qv_real (c s : Vec Ideal S64x256 .f32) (ch : Fin 8) (t h : Fin 4) (e : Fin 256) :
    qv x c s (ix2 (prow ch (last4 t)) (ocol h e)) = turn (fun j => x (ix2 (srow ch t) j)) (c (ix2 (prow ch (last4 t)) e)) (s (ix2 (prow ch (last4 t)) e)) h e := by
  rw [qv_turn, show load x (prow ch (last4 t)) = fun j => x (ix2 (srow ch t) j) from funext fun j => load_real x hx ch t j]

theorem kv_real (c s : Vec Ideal S64x256 .f32) (ch : Fin 8) (t h : Fin 4) (e : Fin 256) :
    kv x c s (ix2 (prow ch (last4 t)) (ocol h e)) = turn (fun j => x (ix2 (srow ch t) j)) (c (ix2 (prow ch (last4 t)) e)) (s (ix2 (prow ch (last4 t)) e)) h e
      * Ideal.ofBits FTy.f32 0x3D800000#32 := by
  rw [kv_turn, show load x (prow ch (last4 t)) = fun j => x (ix2 (srow ch t) j) from funext fun j => load_real x hx ch t j]

theorem vv_real (ch : Fin 8) (t : Fin 4) (j : Fin 1024) : vv x (ix2 (prow ch (last4 t)) j) = x (ix2 (srow ch t) j) :=
  (pay19_at x _ j).trans (load_real x hx ch t j)

theorem gv_real (ch : Fin 8) (t : Fin 4) (j : Fin 1024) : gv x (ix2 (prow ch (last4 t)) j) = x (ix2 (srow ch t) j) :=
  (pay24_at x _ j).trans (load_real x hx ch t j)

end Cert.RetSIdeal.Value

end
-- ==== Proof.RetSBlock.lean ====
/- What the retention kernel's body leaves in its two outputs' blocks, chunk by chunk and head by head. -/
module

public import proofs.«01_k».proof.Proof.RetSLoad
public import Idealize.ShloMosaic.Lib.Pipeline.ReadBack

@[expose] public section

set_option maxRecDepth 16384

noncomputable section

namespace Cert.RetSIdeal.Value

open Cert.RetSRefIdeal.Value (lo hi last4 ocol)
open Cert.RetSIdeal Cert.RetSIdeal.Gen Idealize.ShloMosaic Idealize.ShloMosaic.TcCoe Idealize.SL.Sem

theorem slices (ch : Fin 8) (h : Fin 4) : S64x1024.Slices ![ch.val * 8, h.val * 256] S8x256 := by
  revert ch h
  decide +kernel

theorem inb11 (ch : Fin 8) (h : Fin 4) : ∀ a, (![ch.val, h.val, 0, 0] : Fin 4 → Nat) a + S1x1x256x256.size a ≤ S8x4x256x256.size a := by
  revert ch h
  decide +kernel

theorem inb6 (h : Fin 4) : ∀ a, (![h.val, 0, 0] : Fin 3 → Nat) a + S1x8x8.size a ≤ S4x8x8.size a := by
  revert h
  decide +kernel

theorem inb7 (h : Fin 4) : ∀ a, (![h.val, 0, 0] : Fin 3 → Nat) a + S1x8x1.size a ≤ S4x8x1.size a := by
  revert h
  decide +kernel

theorem inb9 (h : Fin 4) : ∀ a, (![h.val, 0, 0] : Fin 3 → Nat) a + S1x1x256.size a ≤ S4x1x256.size a := by
  revert h
  decide +kernel

/-- A chunk's eight rows of a head. -/
def part (v : FVec Ideal S64x1024 .f32) (ch : Fin 8) (h : Fin 4) : FVec Ideal S8x256 .f32 :=
  extractStridedSlice S8x256 ![ch.val * 8, h.val * 256] v (slices ch h)

/-- A head's state at a chunk. -/
def stateIn (x11 : Vec Ideal S8x4x256x256 .f32) (ch : Fin 8) (h : Fin 4) : FVec Ideal S256x256 .f32 :=
  shapeCast S256x256 (View.ld x11 (Rect.unit (s := S8x4x256x256) ![ch.val, h.val, 0, 0] S1x1x256x256.size (inb11 ch h)) : Vec Ideal S1x1x256x256 .f32) shapeCasts_S1x1x256x256_S256x256

/-- A head's mask, and the scale of the queries' rows. -/
def maskIn (x6 : Vec Ideal S4x8x8 .f32) (h : Fin 4) : FVec Ideal S8x8 .f32 :=
  shapeCast S8x8 (View.ld x6 (Rect.unit (s := S4x8x8) ![h.val, 0, 0] S1x8x8.size (inb6 h)) : Vec Ideal S1x8x8 .f32) shapeCasts_S1x8x8_S8x8
def scaleIn (x7 : Vec Ideal S4x8x1 .f32) (h : Fin 4) : FVec Ideal S8x1 .f32 :=
  shapeCast S8x1 (View.ld x7 (Rect.unit (s := S4x8x1) ![h.val, 0, 0] S1x8x1.size (inb7 h)) : Vec Ideal S1x8x1 .f32) shapeCasts_S1x8x1_S8x1

/-- The scores of eight rows, -/
def score (q k : FVec Ideal S8x256 .f32) : FVec Ideal S8x8 .f32 :=
  matmul dot_S8x256_S8x256_S8x8_1_1_0_0_n_n none (truncf .bf16 q bitsLt_bf16_f32) (truncf .bf16 k bitsLt_bf16_f32) (constant S8x8 .f32 0x00000000#32)

/-- the masked scores times the values, -/
def within (w d : FVec Ideal S8x8 .f32) (v : FVec Ideal S8x256 .f32) : FVec Ideal S8x256 .f32 :=
  matmul dot_S8x8_S8x256_S8x256_1_0_0_1_n_n none (truncf .bf16 (mulf w d) bitsLt_bf16_f32) (truncf .bf16 v bitsLt_bf16_f32) (constant S8x256 .f32 0x00000000#32)

/-- the queries times the state, each row scaled, -/
def across (q : FVec Ideal S8x256 .f32) (st : FVec Ideal S256x256 .f32) (w : FVec Ideal S8x1 .f32) : FVec Ideal S8x256 .f32 :=
  mulf (matmul dot_S8x256_S256x256_S8x256_1_0_0_1_n_n none (truncf .bf16 q bitsLt_bf16_f32) (truncf .bf16 st bitsLt_bf16_f32) (constant S8x256 .f32 0x00000000#32))
    (broadcastTo S8x256 w broadcasts_S8x1_S8x256)

/-- and a head's rows before the norm, their sum. -/
def raw (q k v : FVec Ideal S64x1024 .f32) (x6 : Vec Ideal S4x8x8 .f32) (x7 : Vec Ideal S4x8x1 .f32) (x11 : Vec Ideal S8x4x256x256 .f32) (ch : Fin 8) (h : Fin 4) : FVec Ideal S8x256 .f32 :=
  addf (within (score (part q ch h) (part k ch h)) (maskIn x6 h) (part v ch h)) (across (part q ch h) (stateIn x11 ch h) (scaleIn x7 h))

/-- Rows normed and gated. -/
def gated (o g : FVec Ideal S8x256 .f32) : FVec Ideal S8x256 .f32 :=
  mulf (mulf o (broadcastTo S8x256 (rsqrt (addf (divf (shapeCast S8x1 (multiReduction .add [1] S8 (mulf o o) 0x00000000#32 reduces_S8x256_S8 (.inl rfl) rfl) shapeCasts_S8_S8x1)
      (broadcast S8x1 (Scalar.ofBits .f32 0x43800000#32))) (broadcast S8x1 (Scalar.ofBits .f32 0x358637BD#32)))) broadcasts_S8x1_S8x256))
    (mulf g (logistic g))

/-- A head's new state: the old one decayed, and the scaled keys times the values. -/
def stateOut (k v : FVec Ideal S64x1024 .f32) (x8 : Vec Ideal S4x8x1 .f32) (x9 : Vec Ideal S4x1x256 .f32) (x11 : Vec Ideal S8x4x256x256 .f32) (ch : Fin 8) (h : Fin 4) : FVec Ideal S256x256 .f32 :=
  addf
    (mulf (stateIn x11 ch h) (broadcastTo S256x256 (shapeCast S1x256 (View.ld x9 (Rect.unit (s := S4x1x256) ![h.val, 0, 0] S1x1x256.size (inb9 h)) : Vec Ideal S1x1x256 .f32) shapeCasts_S1x1x256_S1x256) broadcasts_S1x256_S256x256))
    (matmul dot_S8x256_S8x256_S256x256_0_0_1_1_n_n none
      (truncf .bf16 (mulf (part k ch h) (broadcastTo S8x256 (shapeCast S8x1 (View.ld x8 (Rect.unit (s := S4x8x1) ![h.val, 0, 0] S1x8x1.size (inb7 h)) : Vec Ideal S1x8x1 .f32) shapeCasts_S1x8x1_S8x1) broadcasts_S8x1_S8x256)) bitsLt_bf16_f32)
      (truncf .bf16 (part v ch h) bitsLt_bf16_f32) (constant S256x256 .f32 0x00000000#32))

/-- A chunk's heads side by side, -/
def rows (P : Fin 4 → FVec Ideal S8x256 .f32) : FVec Ideal S8x1024 .f32 :=
  concatenate S8x1024 1 [⟨S8x256, P 0⟩, ⟨S8x256, P 1⟩, ⟨S8x256, P 2⟩, ⟨S8x256, P 3⟩] concatenates_S8x256_S8x256_S8x256_S8x256_S8x1024_d1

/-- the chunks below each other, -/
def chunks (P : Fin 8 → FVec Ideal S8x1024 .f32) : FVec Ideal S64x1024 .f32 :=
  concatenate S64x1024 0 [⟨S8x1024, P 0⟩, ⟨S8x1024, P 1⟩, ⟨S8x1024, P 2⟩, ⟨S8x1024, P 3⟩, ⟨S8x1024, P 4⟩, ⟨S8x1024, P 5⟩, ⟨S8x1024, P 6⟩, ⟨S8x1024, P 7⟩]
    concatenates_S8x1024_S8x1024_S8x1024_S8x1024_S8x1024_S8x1024_S8x1024_S8x1024_S64x1024_d0

/-- and the tokens' rows taken out. -/
def back (o : FVec Ideal S64x1024 .f32) : FVec Ideal S32x1024 .bf16 :=
  truncf .bf16 (matmul dot_S64x32_S64x1024_S32x1024_0_0_1_1_n_n none plc (truncf .bf16 o bitsLt_bf16_f32) (constant S32x1024 .f32 0x00000000#32)) bitsLt_bf16_f32

def outBlk (q k v g : FVec Ideal S64x1024 .f32) (x6 : Vec Ideal S4x8x8 .f32) (x7 : Vec Ideal S4x8x1 .f32) (x11 : Vec Ideal S8x4x256x256 .f32) : FVec Ideal S32x1024 .bf16 :=
  back (chunks fun ch => rows fun h => gated (raw q k v x6 x7 x11 ch h) (part g ch h))

theorem part_at (v : FVec Ideal S64x1024 .f32) (ch : Fin 8) (h : Fin 4) (i : Fin 8) (e : Fin 256) : part v ch h (ix2 i e) = v (ix2 (prow ch i) (ocol h e)) := by
  pointwise [part]
  rfl

theorem flat_at (x : Vec Ideal S1x1x256x256 .f32) (a b : Fin 256) : (shapeCast S256x256 x shapeCasts_S1x1x256x256_S256x256 : FVec Ideal S256x256 .f32) (ix2 a b) = x (ix4 0 0 a b) := by
  refine shapeCast_apply x _ _ _ ?_
  rw [Shape.rowMajor_val_two, Shape.rowMajor_val_four]
  simp

theorem stateIn_at (x11 : Vec Ideal S8x4x256x256 .f32) (ch : Fin 8) (h : Fin 4) (a b : Fin 256) : stateIn x11 ch h (ix2 a b) = x11 (ix4 ch h a b) := by
  refine (flat_at _ a b).trans (View.ld_unit_apply_of x11 _ _ _ _ _ fun k => ?_)
  match k with
  | ⟨0, _⟩ => rfl
  | ⟨1, _⟩ => rfl
  | ⟨2, _⟩ => exact (Nat.zero_add _).symm
  | ⟨3, _⟩ => exact (Nat.zero_add _).symm

theorem maskIn_at (x6 : Vec Ideal S4x8x8 .f32) (h : Fin 4) (i j : Fin 8) : maskIn x6 h (ix2 i j) = x6 (ix3 h i j) := by
  refine (shapeCast_apply _ _ _ (ix3 0 i j) ?_).trans (View.ld_unit_apply_of x6 _ _ _ _ _ fun k => ?_)
  · rw [Shape.rowMajor_val_two, Shape.rowMajor_val_three]
    simp
  · match k with
    | ⟨0, _⟩ => rfl
    | ⟨1, _⟩ => exact (Nat.zero_add _).symm
    | ⟨2, _⟩ => exact (Nat.zero_add _).symm

theorem scaleIn_at (x7 : Vec Ideal S4x8x1 .f32) (h : Fin 4) (i : Fin 8) : scaleIn x7 h (ix2 i 0) = x7 (ix3 h i 0) := by
  pointwise [scaleIn]

theorem score_at (q k : FVec Ideal S8x256 .f32) (i j : Fin 8) : score q k (ix2 i j) = ∑ d : Fin 256, q (ix2 i d) * k (ix2 j d) := by
  pointwise [score]

theorem within_at (w d : FVec Ideal S8x8 .f32) (v : FVec Ideal S8x256 .f32) (i : Fin 8) (e : Fin 256) :
    within w d v (ix2 i e) = ∑ j : Fin 8, w (ix2 i j) * d (ix2 i j) * v (ix2 j e) := by
  pointwise [within]

theorem across_at (q : FVec Ideal S8x256 .f32) (st : FVec Ideal S256x256 .f32) (w : FVec Ideal S8x1 .f32) (i : Fin 8) (e : Fin 256) :
    across q st w (ix2 i e) = (∑ d : Fin 256, q (ix2 i d) * st (ix2 d e)) * w (ix2 i 0) := by
  pointwise [across]

theorem raw_at (q k v : FVec Ideal S64x1024 .f32) (x6 : Vec Ideal S4x8x8 .f32) (x7 : Vec Ideal S4x8x1 .f32) (x11 : Vec Ideal S8x4x256x256 .f32) (ch : Fin 8) (h : Fin 4) (i : Fin 8) (e : Fin 256) :
    raw q k v x6 x7 x11 ch h (ix2 i e)
      = ∑ j : Fin 8, (∑ d : Fin 256, q (ix2 (prow ch i) (ocol h d)) * k (ix2 (prow ch j) (ocol h d))) * x6 (ix3 h i j) * v (ix2 (prow ch j) (ocol h e))
        + (∑ d : Fin 256, q (ix2 (prow ch i) (ocol h d)) * x11 (ix4 ch h d e)) * x7 (ix3 h i 0) := by
  refine (congrArg₂ (· + ·) (within_at _ _ _ i e) (across_at _ _ _ i e) : _ = (_ : EReal)).trans ?_
  simp only [score_at, maskIn_at, scaleIn_at, part_at, stateIn_at]

theorem gated_at (o g : FVec Ideal S8x256 .f32) (i : Fin 8) (e : Fin 256) :
    gated o g (ix2 i e) = o (ix2 i e) * Ideal.rsqrt (Ideal.div (∑ k : Fin 256, o (ix2 i k) * o (ix2 i k)) (Ideal.ofBits FTy.f32 0x43800000#32) + Ideal.ofBits FTy.f32 0x358637BD#32)
      * (g (ix2 i e) * Ideal.logistic (g (ix2 i e))) := by
  pointwise [gated]

theorem stateOut_at (k v : FVec Ideal S64x1024 .f32) (x8 : Vec Ideal S4x8x1 .f32) (x9 : Vec Ideal S4x1x256 .f32) (x11 : Vec Ideal S8x4x256x256 .f32) (ch : Fin 8) (h : Fin 4) (a b : Fin 256) :
    stateOut k v x8 x9 x11 ch h (ix2 a b)
      = x11 (ix4 ch h a b) * x9 (ix3 h 0 b) + ∑ j : Fin 8, k (ix2 (prow ch j) (ocol h a)) * x8 (ix3 h j 0) * v (ix2 (prow ch j) (ocol h b)) := by
  pointwise [stateOut]
  simp only [part_at, stateIn_at]

theorem rows_at (P : Fin 4 → FVec Ideal S8x256 .f32) (i : Fin 8) (h : Fin 4) (e : Fin 256) : rows P (ix2 i (ocol h e)) = P h (ix2 i e) := by
  pointwise [rows, ocol]
  have key : ∀ (h' : Fin 4) (e' : Fin 256), h' = h → e' = e → P h' (ix2 i e') = P h (ix2 i e) := by rintro _ _ rfl rfl; rfl
  split_ifs
  all_goals first
    | exact key 0 _ (Fin.ext (show 0 = h.val by omega)) (Fin.ext (by dsimp only; omega))
    | exact key 1 _ (Fin.ext (show 1 = h.val by omega)) (Fin.ext (by dsimp only; omega))
    | exact key 2 _ (Fin.ext (show 2 = h.val by omega)) (Fin.ext (by dsimp only; omega))
    | exact key 3 _ (Fin.ext (show 3 = h.val by omega)) (Fin.ext (by dsimp only; omega))

theorem chunks_at (P : Fin 8 → FVec Ideal S8x1024 .f32) (ch i : Fin 8) (j : Fin 1024) : chunks P (ix2 (prow ch i) j) = P ch (ix2 i j) := by
  pointwise [chunks, prow]
  have key : ∀ ch' i' : Fin 8, ch' = ch → i' = i → P ch' (ix2 i' j) = P ch (ix2 i j) := by rintro _ _ rfl rfl; rfl
  split_ifs
  all_goals first
    | exact key 0 _ (Fin.ext (show 0 = ch.val by omega)) (Fin.ext (by dsimp only; omega))
    | exact key 1 _ (Fin.ext (show 1 = ch.val by omega)) (Fin.ext (by dsimp only; omega))
    | exact key 2 _ (Fin.ext (show 2 = ch.val by omega)) (Fin.ext (by dsimp only; omega))
    | exact key 3 _ (Fin.ext (show 3 = ch.val by omega)) (Fin.ext (by dsimp only; omega))
    | exact key 4 _ (Fin.ext (show 4 = ch.val by omega)) (Fin.ext (by dsimp only; omega))
    | exact key 5 _ (Fin.ext (show 5 = ch.val by omega)) (Fin.ext (by dsimp only; omega))
    | exact key 6 _ (Fin.ext (show 6 = ch.val by omega)) (Fin.ext (by dsimp only; omega))
    | exact key 7 _ (Fin.ext (show 7 = ch.val by omega)) (Fin.ext (by dsimp only; omega))

theorem back_at (o : FVec Ideal S64x1024 .f32) (ch : Fin 8) (t : Fin 4) (j : Fin 1024) : back o (ix2 (srow ch t) j) = o (ix2 (prow ch (last4 t)) j) := by
  have e : back o (ix2 (srow ch t) j) = ∑ r : Fin 64, plc (ix2 r (srow ch t)) * o (ix2 r j) := by
    pointwise [back]
  rw [e, sum_back]

variable (m : (ℓ : Loc nD τ sig) → Buf (Elt Ideal) ℓ)

/-- The first output's block at a point. -/
theorem out12 (c : Dev nD) (t : Fin cfg0.N) : (outsAt0 m c t).1
    = outBlk (qv (X0_0 m c t) (iblk m c 4 t) (iblk m c 5 t)) (kv (X0_1 m c t) (iblk m c 4 t) (iblk m c 5 t)) (vv (X0_2 m c t)) (gv (X0_3 m c t)) (iblk m c 6 t) (iblk m c 7 t) (iblk m c 11 t) := by
  simp only [outsAt0]
  frame_out
  rfl

/-- The chunk and head that the body's `n`-th last store of the second output is of. -/
def chOf (n : Fin 32) : Fin 8 := ⟨(31 - n.val) / 4, by omega⟩
def hOf (n : Fin 32) : Fin 4 := ⟨(31 - n.val) % 4, by omega⟩

/-- A head's state as stored. -/
def put (x : FVec Ideal S256x256 .f32) : FVec Ideal S1x1x256x256 .f32 := shapeCast S1x1x256x256 x shapeCasts_S256x256_S1x1x256x256

theorem put_at (x : FVec Ideal S256x256 .f32) (a b : Fin 256) (i j : Fin 1) : put x (ix4 i j a b) = x (ix2 a b) := by
  pointwise [put]

/-- A buffer of 32 heads' states stored, the last first. -/
def stored (P : Fin 32 → FVec Ideal S1x1x256x256 .f32) : List (View.Piece (Elt Ideal) S8x4x256x256 .f32) :=
  List.ofFn fun n : Fin 32 => ⟨Rect.unit (s := S8x4x256x256) ![(chOf n).val, (hOf n).val, 0, 0] S1x1x256x256.size (inb11 (chOf n) (hOf n)), P n⟩

/-- The store of a chunk and head. -/
def nOf (ch : Fin 8) (h : Fin 4) : Fin 32 := ⟨31 - (ch.val * 4 + h.val), by omega⟩

theorem chOf_nOf (ch : Fin 8) (h : Fin 4) : chOf (nOf ch h) = ch := Fin.ext (by show (31 - (31 - (ch.val * 4 + h.val))) / 4 = ch.val; omega)
theorem hOf_nOf (ch : Fin 8) (h : Fin 4) : hOf (nOf ch h) = h := Fin.ext (by show (31 - (31 - (ch.val * 4 + h.val))) % 4 = h.val; omega)

/-- Read at a chunk and head, it holds that store's state. -/
theorem stored_at (P : Fin 32 → FVec Ideal S1x1x256x256 .f32) (ch : Fin 8) (h : Fin 4) (a b : Fin 256) :
    View.canon (stored P) (ix4 ch h a b) = P (nOf ch h) (ix4 0 0 a b) := by
  refine View.canon_ofFn_eq_of_forall (S := S8x4x256x256) _ _ _ _ ?_ ?_
  · refine ⟨nOf ch h, Rect.mem_set_unit.mpr fun k => ?_⟩
    rw [chOf_nOf, hOf_nOf]
    match k with
    | ⟨0, _⟩ => show ch.val ≤ ch.val ∧ ch.val < ch.val + 1; omega
    | ⟨1, _⟩ => show h.val ≤ h.val ∧ h.val < h.val + 1; omega
    | ⟨2, _⟩ => show 0 ≤ a.val ∧ a.val < 0 + 256; omega
    | ⟨3, _⟩ => show 0 ≤ b.val ∧ b.val < 0 + 256; omega
  · intro n x hx
    have at_ : ∀ k, ((ix4 ch h a b : S8x4x256x256.Idx) k).val = (![(chOf n).val, (hOf n).val, 0, 0] : Fin 4 → Nat) k + (x k).val := fun k => by
      rw [← hx, Rect.emb_apply]
      show (![(chOf n).val, (hOf n).val, 0, 0] : Fin 4 → Nat) k + 1 * (x k).val = _
      rw [Nat.one_mul]
    have x0 : (x 0).val < 1 := (x 0).isLt
    have x1 : (x 1).val < 1 := (x 1).isLt
    have c0 : ch.val = (31 - n.val) / 4 + (x 0).val := at_ 0
    have c1 : h.val = (31 - n.val) % 4 + (x 1).val := at_ 1
    have c2 : a.val = 0 + (x 2).val := at_ 2
    have c3 : b.val = 0 + (x 3).val := at_ 3
    obtain rfl : n = nOf ch h := Fin.ext (by show n.val = 31 - (ch.val * 4 + h.val); omega)
    refine congrArg (P (nOf ch h)) (funext fun k => Fin.ext ?_)
    match k with
    | ⟨0, _⟩ => show (x 0).val = 0; omega
    | ⟨1, _⟩ => show (x 1).val = 0; omega
    | ⟨2, _⟩ => show (x 2).val = a.val; omega
    | ⟨3, _⟩ => show (x 3).val = b.val; omega

/-- The second output's block at a point: its stores' pieces, -/
theorem out13 (c : Dev nD) (t : Fin cfg0.N) : (outsAt0 m c t).2
    = View.canon (stored fun n => put (stateOut (kv (X0_1 m c t) (iblk m c 4 t) (iblk m c 5 t)) (vv (X0_2 m c t)) (iblk m c 8 t) (iblk m c 9 t) (iblk m c 11 t) (chOf n) (hOf n))) := by
  simp only [outsAt0]
  frame_out
  rfl

/-- read at a chunk and head. -/
theorem out13_at (c : Dev nD) (t : Fin cfg0.N) (ch : Fin 8) (h : Fin 4) (a b : Fin 256) : (outsAt0 m c t).2 (ix4 ch h a b : S8x4x256x256.Idx)
    = stateOut (kv (X0_1 m c t) (iblk m c 4 t) (iblk m c 5 t)) (vv (X0_2 m c t)) (iblk m c 8 t) (iblk m c 9 t) (iblk m c 11 t) ch h (ix2 a b) := by
  rw [out13]
  refine (stored_at _ ch h a b).trans ((put_at _ a b 0 0).trans ?_)
  rw [chOf_nOf, hOf_nOf]

end Cert.RetSIdeal.Value

end
-- ==== Proof.RetSPoint.lean ====
/- The retention kernel's two results for the sample batch. -/
module

public import proofs.«01_k».proof.Proof.Gen.RetSIdeal.Value
public import proofs.«01_k».proof.Proof.RetSBlock
public import Idealize.ShloMosaic.Lib.Pipeline.ValueKit
public import Idealize.ShloMosaic.Lib.Pointwise
public import Idealize.ShloMosaic.Lib.Claim

@[expose] public section

set_option maxRecDepth 16384

noncomputable section

namespace Cert.RetSIdeal.Value

open Cert.RetSRefIdeal.Value (lo hi last4 ocol orow zrow col ang rotate rot key newState pre out)
open Cert.RetSIdeal Cert.RetSIdeal.Gen Idealize.ShloMosaic Idealize.ShloMosaic.TcCoe Idealize.SL.Sem
open Idealize.ShloMosaic.Pipeline (Dat)

variable (m : (ℓ : Loc nD τ sig) → Buf (Elt Ideal) ℓ)

/-- The arguments of the retention. -/
abbrev zz (c : Dev nD) : S528x4096.Idx → EReal := m ((c : Thread nD τ).loc main_arg0)
abbrev cs (c : Dev nD) : S136x128.Idx → EReal := m ((c : Thread nD τ).loc main_arg1)
abbrev sn (c : Dev nD) : S136x128.Idx → EReal := m ((c : Thread nD τ).loc main_arg2)
abbrev dm (c : Dev nD) : S4x8x8.Idx → EReal := m ((c : Thread nD τ).loc main_arg3)
abbrev is (c : Dev nD) : S4x8.Idx → EReal := m ((c : Thread nD τ).loc main_arg4)
abbrev ks (c : Dev nD) : S4x8.Idx → EReal := m ((c : Thread nD τ).loc main_arg5)
abbrev ga (c : Dev nD) : S4.Idx → EReal := m ((c : Thread nD τ).loc main_arg6)
abbrev st (c : Dev nD) : S1x128x4x256x256.Idx → EReal := m ((c : Thread nD τ).loc main_arg7)

/-- The block indices of the windows. -/
theorem idx : ∀ t : Fin cfg0.N, win0_0.index t = ![t.val, 0] ∧ win0_1.index t = ![t.val, 1] ∧ win0_2.index t = ![t.val, 2] ∧ win0_3.index t = ![t.val, 3]
    ∧ win0_4.index t = ![2, 0] ∧ win0_5.index t = ![2, 0] ∧ win0_6.index t = ![0, 0, 0] ∧ win0_7.index t = ![0, 0, 0] ∧ win0_8.index t = ![0, 0, 0] ∧ win0_9.index t = ![0, 0, 0]
    ∧ win0_11.index t = ![t.val, 0, 0, 0] ∧ win0_12.index t = ![t.val, 0] ∧ win0_13.index t = ![t.val, 0, 0, 0] :=
  (by decide +kernel : ∀ t : Fin grid0.N, _)

/-- The sequence that chunk `ch` of point `t` is. -/
def seqOf (t : Fin cfg0.N) (ch : Fin 8) : Fin 128 := ⟨t.val * 8 + ch.val, by have := lt_of_lt_of_eq t.isLt N_0; omega⟩

/-- Row `k` of point `t`'s blocks in the projected rows. -/
def zr (t : Fin cfg0.N) (k : Fin 32) : Fin 528 := ⟨t.val * 32 + k.val, by have := lt_of_lt_of_eq t.isLt N_0; omega⟩

theorem zr_lt (t : Fin cfg0.N) (k : Fin 32) : (zr t k).val < 512 := by
  have := lt_of_lt_of_eq t.isLt N_0
  show t.val * 32 + k.val < 512
  omega

theorem zr_srow (t : Fin cfg0.N) (ch : Fin 8) (s : Fin 4) : zr t (srow ch s) = zrow (seqOf t ch) s :=
  Fin.ext (by show t.val * 32 + (ch.val * 4 + s.val) = (t.val * 8 + ch.val) * 4 + s.val; omega)

/-- The four blocks of the projected rows: queries, keys, values, gates. -/
theorem x0_at (c : Dev nD) (t : Fin cfg0.N) (k : Fin 32) (j : Fin 1024) : X0_0 m c t (ix2 k j : S32x1024.Idx) = zz m c (ix2 (zr t k) ⟨0 * 1024 + j.val, by omega⟩) := by
  unfold X0_0 Pipeline.Window.fill
  rw [dif_pos (moved0_0 t _)]
  have e : ((cfg0.win 0).blk t).view.emb (fun a => ⟨((ix2 k j : S32x1024.Idx) a).val, ((cfg0.win 0).moved_iff _ _).mp (moved0_0 t _) a⟩) = (ix2 (zr t k) ⟨0 * 1024 + j.val, by omega⟩ : S528x4096.Idx) := by
    blk_ext [idx t] <;> rfl
  exact congrArg (zz m c) e

theorem x1_at (c : Dev nD) (t : Fin cfg0.N) (k : Fin 32) (j : Fin 1024) : X0_1 m c t (ix2 k j : S32x1024.Idx) = zz m c (ix2 (zr t k) ⟨1 * 1024 + j.val, by omega⟩) := by
  unfold X0_1 Pipeline.Window.fill
  rw [dif_pos (moved0_1 t _)]
  have e : ((cfg0.win 1).blk t).view.emb (fun a => ⟨((ix2 k j : S32x1024.Idx) a).val, ((cfg0.win 1).moved_iff _ _).mp (moved0_1 t _) a⟩) = (ix2 (zr t k) ⟨1 * 1024 + j.val, by omega⟩ : S528x4096.Idx) := by
    blk_ext [idx t] <;> rfl
  exact congrArg (zz m c) e

theorem x2_at (c : Dev nD) (t : Fin cfg0.N) (k : Fin 32) (j : Fin 1024) : X0_2 m c t (ix2 k j : S32x1024.Idx) = zz m c (ix2 (zr t k) ⟨2 * 1024 + j.val, by omega⟩) := by
  unfold X0_2 Pipeline.Window.fill
  rw [dif_pos (moved0_2 t _)]
  have e : ((cfg0.win 2).blk t).view.emb (fun a => ⟨((ix2 k j : S32x1024.Idx) a).val, ((cfg0.win 2).moved_iff _ _).mp (moved0_2 t _) a⟩) = (ix2 (zr t k) ⟨2 * 1024 + j.val, by omega⟩ : S528x4096.Idx) := by
    blk_ext [idx t] <;> rfl
  exact congrArg (zz m c) e

theorem x3_at (c : Dev nD) (t : Fin cfg0.N) (k : Fin 32) (j : Fin 1024) : X0_3 m c t (ix2 k j : S32x1024.Idx) = zz m c (ix2 (zr t k) ⟨3 * 1024 + j.val, by omega⟩) := by
  unfold X0_3 Pipeline.Window.fill
  rw [dif_pos (moved0_3 t _)]
  have e : ((cfg0.win 3).blk t).view.emb (fun a => ⟨((ix2 k j : S32x1024.Idx) a).val, ((cfg0.win 3).moved_iff _ _).mp (moved0_3 t _) a⟩) = (ix2 (zr t k) ⟨3 * 1024 + j.val, by omega⟩ : S528x4096.Idx) := by
    blk_ext [idx t] <;> rfl
  exact congrArg (zz m c) e

/-- The column of a part of the projected rows. -/
theorem col_eq (w h : Fin 4) (e : Fin 256) {p : w.val * 1024 + (ocol h e).val < 4096} : (⟨w.val * 1024 + (ocol h e).val, p⟩ : Fin 4096) = col w h e :=
  Fin.ext (by show w.val * 1024 + (h.val * 256 + e.val) = w.val * 1024 + h.val * 256 + e.val; omega)

/-- A table's rows for the prompt, and below them the last eight rows once for each chunk; -/
def tab (x : FVec Ideal S136x128 .f32) : FVec Ideal S192x128 .f32 :=
  concatenate S192x128 0 [⟨S128x128, extractStridedSlice S128x128 ![0, 0] x slices_S136x128_S128x128_0_0⟩,
    ⟨S64x128, shapeCast S64x128 (broadcastInDim S8x8x1x128 ![0, 1, 2, 3] bcast_S1x8x1x128_S8x8x1x128_0_1_2_3
      (shapeCast S1x8x1x128 (extractStridedSlice S8x128 ![128, 0] x slices_S136x128_S8x128_128_0) shapeCasts_S8x128_S1x8x1x128)) shapeCasts_S8x8x1x128_S64x128⟩] concatenates_S128x128_S64x128_S192x128_d0

/-- and the columns of two such interleaved. -/
def pairs (a b : FVec Ideal S192x128 .f32) : FVec Ideal S192x256 .f32 :=
  shapeCast S192x256 (concatenate S192x128x2 2 [⟨S192x128x1, broadcastInDim S192x128x1 ![0, 1] bcast_S192x128_S192x128x1_0_1 a⟩,
    ⟨S192x128x1, broadcastInDim S192x128x1 ![0, 1] bcast_S192x128_S192x128x1_0_1 b⟩] concatenates_S192x128x1_S192x128x1_S192x128x2_d2) shapeCasts_S192x128x2_S192x256

theorem tab_at (x : FVec Ideal S136x128 .f32) (r : Fin 192) (k : Fin 128) (ch : Fin 8) (s : Fin 4) (hr : r.val = 128 + (ch.val * 8 + (4 + s.val))) :
    tab x (ix2 r k) = x (ix2 ⟨132 + s.val, by omega⟩ k) := by
  pointwise [tab]
  rw [dif_neg (by omega)]
  exact congrArg (fun q => x (ix2 q k)) (Fin.ext (by show 128 + (r.val - 128) % 8 = 132 + s.val; omega))

theorem pairs_at (a b : FVec Ideal S192x128 .f32) (r : Fin 192) (e : Fin 256) :
    pairs a b (ix2 r e) = if e.val % 2 = 0 then a (ix2 r ⟨e.val / 2, by omega⟩) else b (ix2 r ⟨e.val / 2, by omega⟩) := by
  pointwise [pairs]
  by_cases h : e.val % 2 = 0
  · rw [if_pos h, dif_pos (by omega)]
  · rw [if_neg h, dif_neg (by omega)]

/-- What the region finds in the tables' buffers. -/
theorem V_cos (c : Dev nD) : V m c main_v15 = pairs (tab (cs m c)) (tab (cs m c)) := by
  show StableHlo.after (List.flatten [hostOps0]) (fun b => m (c, b)) (Proc.devRef .tc main_v15) = _
  simp only [hostOps0, List.flatten_cons, List.flatten_nil, List.append_nil]
  after_results
  rfl

theorem V_sin (c : Dev nD) : V m c main_v32 = pairs (Host.negf (tab (sn m c))) (tab (sn m c)) := by
  show StableHlo.after (List.flatten [hostOps0]) (fun b => m (c, b)) (Proc.devRef .tc main_v32) = _
  simp only [hostOps0, List.flatten_cons, List.flatten_nil, List.append_nil]
  after_results
  rfl

/-- Row `r` of the tables' blocks. -/
def trow (r : Fin 64) : Fin 192 := ⟨2 * 64 + r.val, by omega⟩

theorem x4_at (c : Dev nD) (t : Fin cfg0.N) (ch : Fin 8) (s : Fin 4) (e : Fin 256) : iblk m c 4 t (ix2 (prow ch (last4 s)) e : S64x256.Idx) = cs m c (ang s e) := by
  have q : ((cfg0.win 4).blk t).view.emb (ix2 (prow ch (last4 s)) e) = (ix2 (trow (prow ch (last4 s))) e : S192x256.Idx) := by blk_ext [idx t] <;> rfl
  refine (congrArg (V m c main_v15) q).trans ?_
  rw [V_cos, pairs_at, tab_at _ _ _ ch s rfl, ite_self]
  rfl

theorem x5_at (c : Dev nD) (t : Fin cfg0.N) (ch : Fin 8) (s : Fin 4) (e : Fin 256) :
    iblk m c 5 t (ix2 (prow ch (last4 s)) e : S64x256.Idx) = if e.val % 2 = 0 then -sn m c (ang s e) else sn m c (ang s e) := by
  have q : ((cfg0.win 5).blk t).view.emb (ix2 (prow ch (last4 s)) e) = (ix2 (trow (prow ch (last4 s))) e : S192x256.Idx) := by blk_ext [idx t] <;> rfl
  refine (congrArg (V m c main_v32) q).trans ?_
  rw [V_sin, pairs_at, tab_at _ _ _ ch s rfl, show Host.negf (tab (sn m c)) (ix2 (trow (prow ch (last4 s))) ⟨e.val / 2, by omega⟩) = -tab (sn m c) (ix2 (trow (prow ch (last4 s))) ⟨e.val / 2, by omega⟩) from rfl,
    tab_at _ _ _ ch s rfl]
  rfl

/-- The mask, the scales, the decay and the states. -/
theorem x6_at (c : Dev nD) (t : Fin cfg0.N) (h : Fin 4) (i j : Fin 8) : iblk m c 6 t (ix3 h i j : S4x8x8.Idx) = dm m c (ix3 h i j) := by
  blk_point [iblk, V, idx t]

theorem x7_at (c : Dev nD) (t : Fin cfg0.N) (h : Fin 4) (i : Fin 8) : iblk m c 7 t (ix3 h i 0 : S4x8x1.Idx) = is m c (ix2 h i) := by
  blk_point [iblk, idx t]

theorem x8_at (c : Dev nD) (t : Fin cfg0.N) (h : Fin 4) (i : Fin 8) : iblk m c 8 t (ix3 h i 0 : S4x8x1.Idx) = ks m c (ix2 h i) := by
  blk_point [iblk, idx t]

theorem x9_at (c : Dev nD) (t : Fin cfg0.N) (h : Fin 4) (b : Fin 256) : iblk m c 9 t (ix3 h 0 b : S4x1x256.Idx) = ga m c (ix1 h) := by
  blk_point [iblk, idx t]

theorem x11_at (c : Dev nD) (t : Fin cfg0.N) (ch : Fin 8) (h : Fin 4) (a b : Fin 256) :
    iblk m c 11 t (ix4 ch h a b : S8x4x256x256.Idx) = st m c (ix5 0 (seqOf t ch) h a b) := by
  have q : ((cfg0.win 11).blk t).view.emb (ix4 ch h a b) = (ix4 (seqOf t ch) h a b : S128x4x256x256.Idx) := by blk_ext [idx t] <;> rfl
  show V m c main_v37 (((cfg0.win 11).blk t).view.emb (ix4 ch h a b)) = _
  rw [q]
  entry_read
  pointwise

/-- A sum over a chunk's eight rows whose first four terms vanish. -/
theorem sum_last4 (f : Fin 8 → EReal) (hf : ∀ i, i.val < 4 → f i = 0) : ∑ i : Fin 8, f i = ∑ s : Fin 4, f (last4 s) := by
  rw [Fin.sum_univ_eight, Fin.sum_univ_four, hf 0 (by decide), hf 1 (by decide), hf 2 (by decide), hf 3 (by decide)]
  simp only [zero_add]
  rfl

/-- The rotation that the kernel computes is the reference's. -/
theorem turn_eq (x : Fin 1024 → EReal) (co si : EReal) (h : Fin 4) (e : Fin 256) :
    turn x co (if e.val % 2 = 0 then -si else si) h e = rotate (x (ocol h (lo e))) (x (ocol h (hi e))) co si e := by
  unfold turn rotate
  split_ifs
  · rw [mul_neg, sub_eq_add_neg]
  · exact add_comm _ _

section
variable (c : Dev nD) (hz : ∀ (r : Fin 528) (j : Fin 4096), r.val < 512 → zz m c (ix2 r j) - zz m c (ix2 r j) = 0)
include hz

theorem q_at (t : Fin cfg0.N) (ch : Fin 8) (s h : Fin 4) (e : Fin 256) :
    qv (X0_0 m c t) (iblk m c 4 t) (iblk m c 5 t) (ix2 (prow ch (last4 s)) (ocol h e)) = rot (zz m c) (cs m c) (sn m c) 0 (seqOf t ch) s h e := by
  rw [qv_real (fun k j => by rw [x0_at]; exact hz _ _ (zr_lt t k)), x4_at, x5_at, turn_eq]
  unfold rot
  rw [x0_at, x0_at, zr_srow]
  exact congrArg₂ (fun a b => rotate (zz m c (ix2 _ a)) (zz m c (ix2 _ b)) _ _ _) (col_eq 0 h (lo e)) (col_eq 0 h (hi e))

theorem k_at (t : Fin cfg0.N) (ch : Fin 8) (s h : Fin 4) (e : Fin 256) :
    kv (X0_1 m c t) (iblk m c 4 t) (iblk m c 5 t) (ix2 (prow ch (last4 s)) (ocol h e)) = key (zz m c) (cs m c) (sn m c) (seqOf t ch) s h e := by
  rw [kv_real (fun k j => by rw [x1_at]; exact hz _ _ (zr_lt t k)), x4_at, x5_at, turn_eq]
  unfold key rot
  rw [x1_at, x1_at, zr_srow]
  exact congrArg₂ (fun a b => rotate (zz m c (ix2 _ a)) (zz m c (ix2 _ b)) _ _ _ * _) (col_eq 1 h (lo e)) (col_eq 1 h (hi e))

theorem v_at (t : Fin cfg0.N) (ch : Fin 8) (s h : Fin 4) (e : Fin 256) :
    vv (X0_2 m c t) (ix2 (prow ch (last4 s)) (ocol h e)) = zz m c (ix2 (zrow (seqOf t ch) s) (col 2 h e)) := by
  rw [vv_real (fun k j => by rw [x2_at]; exact hz _ _ (zr_lt t k)), x2_at, zr_srow]
  exact congrArg (fun a => zz m c (ix2 _ a)) (col_eq 2 h e)

theorem g_at (t : Fin cfg0.N) (ch : Fin 8) (s h : Fin 4) (e : Fin 256) :
    gv (X0_3 m c t) (ix2 (prow ch (last4 s)) (ocol h e)) = zz m c (ix2 (zrow (seqOf t ch) s) (col 3 h e)) := by
  rw [gv_real (fun k j => by rw [x3_at]; exact hz _ _ (zr_lt t k)), x3_at, zr_srow]
  exact congrArg (fun a => zz m c (ix2 _ a)) (col_eq 3 h e)

/-- The rows before the norm at a token are the reference's. -/
theorem raw_eq (t : Fin cfg0.N) (ch : Fin 8) (s h : Fin 4) (e : Fin 256) :
    raw (qv (X0_0 m c t) (iblk m c 4 t) (iblk m c 5 t)) (kv (X0_1 m c t) (iblk m c 4 t) (iblk m c 5 t)) (vv (X0_2 m c t)) (iblk m c 6 t) (iblk m c 7 t) (iblk m c 11 t) ch h (ix2 (last4 s) e)
      = pre (zz m c) (cs m c) (sn m c) (dm m c) (is m c) (st m c) (seqOf t ch) s h e := by
  rw [raw_at, sum_last4 _ (fun i hi => by rw [vv_pad _ ch i hi, mul_zero])]
  simp only [q_at m c hz, k_at m c hz, v_at m c hz, x6_at, x7_at, x11_at]
  rfl

/-- The first output's block at a token. -/
theorem blk12 (t : Fin cfg0.N) (ch : Fin 8) (s h : Fin 4) (e : Fin 256) : (outsAt0 m c t).1 (ix2 (srow ch s) (ocol h e) : S32x1024.Idx)
    = out (zz m c) (cs m c) (sn m c) (dm m c) (is m c) (st m c) (seqOf t ch) s h e := by
  rw [out12]
  unfold outBlk
  rw [back_at, chunks_at, rows_at, gated_at]
  simp only [raw_eq m c hz, part_at, g_at m c hz]
  rfl

/-- The second output's block at a sequence and head. -/
theorem blk13 (t : Fin cfg0.N) (ch : Fin 8) (h : Fin 4) (a b : Fin 256) : (outsAt0 m c t).2 (ix4 ch h a b : S8x4x256x256.Idx)
    = newState (zz m c) (cs m c) (sn m c) (ks m c) (ga m c) (st m c) (seqOf t ch) h a b := by
  rw [out13_at, stateOut_at, sum_last4 _ (fun i hi => by rw [vv_pad _ ch i hi, mul_zero])]
  simp only [k_at m c hz, v_at m c hz, x8_at, x9_at, x11_at]
  unfold newState
  rw [mul_comm (st m c _)]

/-- The gated rows are the reference's, -/
theorem final12 : (dats m 0 c).arrAt 12 (cfgs 0).N
    = Cert.RetSRefIdeal.Read.val_main_v89 (F := Ideal) (zz m c) (cs m c) (sn m c) (dm m c) (is m c) (st m c) := by
  refine (dats m 0 c).arrAt_eq_of_covers 12 _ (by decide +kernel) fun t hf y => ?_
  blk_simp
  rw [after0_12]
  idx_vars y
  obtain ⟨ch, s, rfl⟩ : ∃ (ch : Fin 8) (s : Fin 4), y0 = srow ch s := ⟨⟨y0.val / 4, by omega⟩, ⟨y0.val % 4, by omega⟩, Fin.ext (by show y0.val = y0.val / 4 * 4 + y0.val % 4; omega)⟩
  obtain ⟨h, e, rfl⟩ : ∃ (h : Fin 4) (e : Fin 256), y1 = ocol h e := ⟨⟨y1.val / 256, by omega⟩, ⟨y1.val % 256, by omega⟩, Fin.ext (by show y1.val = y1.val / 256 * 256 + y1.val % 256; omega)⟩
  have q : ((cfg0.win 12).blk t).view.emb (ix2 (srow ch s) (ocol h e)) = (ix2 (orow (seqOf t ch) s) (ocol h e) : S512x1024.Idx) := by
    blk_ext [idx t]
    · show t.val * 32 + (ch.val * 4 + s.val) = (t.val * 8 + ch.val) * 4 + s.val
      omega
  rw [q, Cert.RetSRefIdeal.Value.out_at]
  exact blk12 m c hz t ch s h e

/-- and so are the new states. -/
theorem final13 : (dats m 0 c).arrAt 13 (cfgs 0).N
    = Cert.RetSRefIdeal.Read.val_main_v73 (F := Ideal) (zz m c) (cs m c) (sn m c) (ks m c) (ga m c) (st m c) := by
  refine (dats m 0 c).arrAt_eq_of_covers 13 _ (by decide +kernel) fun t hf y => ?_
  blk_simp
  rw [after0_13]
  idx_vars y
  have q : ((cfg0.win 13).blk t).view.emb (ix4 y0 y1 y2 y3) = (ix4 (seqOf t y0) y1 y2 y3 : S128x4x256x256.Idx) := by
    blk_ext [idx t] <;> rfl
  rw [q, Cert.RetSRefIdeal.Value.state_at]
  exact blk13 m c hz t y0 y1 y2 y3

end

end Cert.RetSIdeal.Value

end
-- ==== Proof.RetSClaims.lean ====
/- The claims of the retention: the two results' equality with the plain reference's, and the reference's frame. -/
module

public import proofs.«01_k».proof.Defs
public import proofs.«01_k».proof.Proof.Gen.Layout
public import proofs.«01_k».proof.Proof.Gen.RetSRefIdeal.Run
public import proofs.«01_k».proof.Proof.RetSPoint
public import Idealize.ShloMosaic.Lib.Claim
public import Idealize.ShloMosaic.Adequacy
public import Idealize.ShloMosaic.Init

@[expose] public section

noncomputable section

namespace Cert.Proof

open Idealize.ShloMosaic Idealize.SL.Sem

/-- The side conditions of the precondition's operations. -/
theorem z_facts : Cert.Pre_z_finite.Facts := ⟨by decide, by decide⟩

/-- What the precondition says of an entry of the projected rows: it is finite. -/
theorem z_sub_self (hP : Cert.Pre_z_finite.Facts) (m : (ℓ : Loc Cert.RetSIdeal.nD Cert.RetSIdeal.τ Cert.RetSIdeal.sig) → Buf (Elt Ideal) ℓ)
    (h : Cert.Pre_RetSIdeal_z_finite (hPre_z_finite := hP) m) (c : Dev Cert.RetSIdeal.nD) (r : Fin 528) (j : Fin 4096) (hr : r.val < 512) :
    Cert.RetSIdeal.Value.zz m c (ix2 r j) - Cert.RetSIdeal.Value.zz m c (ix2 r j) = 0 := by
  have e := congrFun (h c) (ix2 ⟨r.val, hr⟩ j)
  pointwise [Cert.Pre_z_finite.fn] at e
  by_contra hc
  rw [decide_eq_false hc] at e
  exact absurd e (by decide)

/-- The retention's two arrays and the plain reference's are equal at the ideal instance. -/
theorem rets_algebraic (hP : Cert.Pre_z_finite.Facts) : Cert.algebraic_RetSIdeal_RetSRefIdeal_pre_z_finite (hRetSIdeal := Cert.RetSIdeal.Gen.facts) (hRetSRefIdeal := Cert.RetSRefIdeal.Gen.facts) (hPre_z_finite := hP) := by
  pair_intro
  · run_from Cert.RetSIdeal.Value.run_blocks m g
  · run_from Cert.RetSRefIdeal.Value.run m' g'
    · obtain ⟨h0, h1, h2, h3, h4, h5, h6, h7⟩ := hagree c
      rw [Cert.RetSRefIdeal.Read.val_main_v89_eq, h0, h1, h2, h3, h4, h7]
      exact (Cert.RetSIdeal.Value.final12 m c (z_sub_self hP m hpre c)).symm
    · obtain ⟨h0, h1, h2, h3, h4, h5, h6, h7⟩ := hagree c
      rw [Cert.RetSRefIdeal.Read.val_main_v73_eq, h0, h1, h2, h5, h6, h7]
      exact (Cert.RetSIdeal.Value.final13 m c (z_sub_self hP m hpre c)).symm

/-- The plain reference runs, keeps its arguments and ends with every counter at zero. -/
theorem rets_ref_frame : Cert.quiescent_RetSRefIdeal (hRetSRefIdeal := Cert.RetSRefIdeal.Gen.facts) := by
  intro m g _
  exact (θ_run _ _ _).mono (fun r h => ⟨fun c => (h c).2.2, sem_eq_zero_of_no_sems rfl r.2⟩) (Cert.RetSRefIdeal.Value.run m g)

end Cert.Proof

end
-- ==== Proof.lean ====
/- The claims about the calls and their plain references, put together from the programs' runs. -/
module

public import proofs.«01_k».proof.Defs
public import proofs.«01_k».proof.Proof.Gen.Layout
public import proofs.«01_k».proof.Proof.Gen.Layout.Skeleton
public import proofs.«01_k».proof.Proof.Gen.Layout.Launch
public import proofs.«01_k».proof.Proof.Gen.Layout.Points
public import proofs.«01_k».proof.Proof.Gen.Layout.Frame
public import proofs.«01_k».proof.Proof.Gen.LayoutIdeal
public import proofs.«01_k».proof.Proof.Gen.LayoutIdeal.Skeleton
public import proofs.«01_k».proof.Proof.Gen.LayoutIdeal.Launch
public import proofs.«01_k».proof.Proof.Gen.LayoutIdeal.Points
public import proofs.«01_k».proof.Proof.Gen.LayoutIdeal.Frame
public import proofs.«01_k».proof.Proof.Gen.LayoutIdeal.Value
public import proofs.«01_k».proof.Proof.Gen.LayoutRefIdeal
public import proofs.«01_k».proof.Proof.Gen.LayoutRefIdeal.Run
public import proofs.«01_k».proof.Proof.Gen.LayoutRefIdeal.Read
public import proofs.«01_k».proof.Proof.Gen.Ffn.Frame
public import proofs.«01_k».proof.Proof.Gen.FfnIdeal.Frame
public import proofs.«01_k».proof.Proof.Gen.InProj.Frame
public import proofs.«01_k».proof.Proof.Gen.InProjIdeal.Frame
public import proofs.«01_k».proof.Proof.Gen.OutProj.Frame
public import proofs.«01_k».proof.Proof.Gen.OutProjIdeal.Frame
public import proofs.«01_k».proof.Proof.Gen.Shift.Frame
public import proofs.«01_k».proof.Proof.Gen.ShiftIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.ShiftRefIdeal.Run
public import proofs.«01_k».proof.Proof.Gen.ShiftRefIdeal.Read
public import proofs.«01_k».proof.Proof.Gen.RetS.Frame
public import proofs.«01_k».proof.Proof.Gen.RetSIdeal.Frame
public import proofs.«01_k».proof.Proof.Gen.RetSIdeal.Value
public import proofs.«01_k».proof.Proof.Gen.RetSRefIdeal.Run
public import proofs.«01_k».proof.Proof.Gen.RetSRefIdeal.Read
public import proofs.«01_k».proof.Proof.Gen.FfnS.Frame
public import proofs.«01_k».proof.Proof.Gen.FfnSIdeal.Frame
public import proofs.«01_k».proof.Proof.Gen.FfnSIdeal.Value
public import proofs.«01_k».proof.Proof.Gen.FfnSRefIdeal.Run
public import proofs.«01_k».proof.Proof.Gen.FfnSRefIdeal.Read
public import proofs.«01_k».proof.Proof.Gen.RetP.Frame
public import proofs.«01_k».proof.Proof.Gen.RetPIdeal.Frame
public import proofs.«01_k».proof.Proof.LayoutPoint
public import proofs.«01_k».proof.Proof.CallClaims
public import proofs.«01_k».proof.Proof.RetSClaims
public import Idealize.ShloMosaic.Lib.Claim
public import Idealize.ShloMosaic.Adequacy
public import Idealize.ShloMosaic.Init

@[expose] public section

noncomputable section

namespace Cert.Proof

open Idealize.ShloMosaic Idealize.SL.Sem Cert.Layout

/-- The layout call's array and the plain reference's are equal at the ideal instance. -/
theorem layout_algebraic : Cert.algebraic_LayoutIdeal_LayoutRefIdeal
    (hLayoutIdeal := Cert.LayoutIdeal.Gen.facts) (hLayoutRefIdeal := Cert.LayoutRefIdeal.Gen.facts) := by
  pair_intro
  · run_from Cert.LayoutIdeal.Value.run_blocks m g
  · run_from Cert.LayoutRefIdeal.Value.run m' g'
    rw [hagree c]
    exact (Cert.LayoutIdeal.Value.final m c).symm

/-- The plain reference of the layout call runs, keeps its argument and ends with every counter at zero. -/
theorem layout_ref_frame : Cert.quiescent_LayoutRefIdeal (hLayoutRefIdeal := Cert.LayoutRefIdeal.Gen.facts) := by
  intro m g _
  exact (θ_run _ _ _).mono (fun r h => ⟨fun c => (h c).2, sem_eq_zero_of_no_sems rfl r.2⟩)
    (Cert.LayoutRefIdeal.Value.run m g)

theorem claim : Cert.Claim :=
  ⟨Cert.Layout.Gen.facts, Cert.LayoutIdeal.Gen.facts, Cert.LayoutRefIdeal.Gen.facts,
    Cert.Ffn.Gen.facts, Cert.FfnIdeal.Gen.facts, Cert.FfnRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Shift.Gen.facts, Cert.ShiftIdeal.Gen.facts, Cert.ShiftRefIdeal.Gen.facts,
    Cert.RetS.Gen.facts, Cert.RetSIdeal.Gen.facts, Cert.RetSRefIdeal.Gen.facts,
    Cert.FfnS.Gen.facts, Cert.FfnSIdeal.Gen.facts, Cert.FfnSRefIdeal.Gen.facts,
    Cert.RetP.Gen.facts, Cert.RetPIdeal.Gen.facts, z_facts,
    fun m ρ _ => Cert.Layout.Gen.frame m ρ, fun m ρ _ => Cert.LayoutIdeal.Gen.frame m ρ, layout_ref_frame,
    fun m ρ _ => Cert.Ffn.Gen.frame m ρ, fun m ρ _ => Cert.FfnIdeal.Gen.frame m ρ, ffn_ref_frame,
    fun m ρ _ => Cert.InProj.Gen.frame m ρ, fun m ρ _ => Cert.InProjIdeal.Gen.frame m ρ, inproj_ref_frame,
    fun m ρ _ => Cert.OutProj.Gen.frame m ρ, fun m ρ _ => Cert.OutProjIdeal.Gen.frame m ρ, outproj_ref_frame,
    fun m ρ _ => Cert.Shift.Gen.frame m ρ, fun m ρ _ => Cert.ShiftIdeal.Gen.frame m ρ, shift_ref_frame,
    fun m ρ _ => Cert.RetS.Gen.frame m ρ, fun m ρ _ => Cert.RetSIdeal.Gen.frame m ρ, fun m ρ _ => Cert.RetSIdeal.Gen.frame m ρ,
    rets_ref_frame, fun m g _ => rets_ref_frame m g trivial,
    fun m ρ _ => Cert.FfnS.Gen.frame m ρ, fun m ρ _ => Cert.FfnSIdeal.Gen.frame m ρ, ffns_ref_frame,
    fun m ρ _ => Cert.RetP.Gen.frame m ρ, fun m ρ _ => Cert.RetPIdeal.Gen.frame m ρ,
    trivial, layout_algebraic,
    trivial, ffn_algebraic,
    trivial, inproj_algebraic,
    trivial, outproj_algebraic,
    trivial, shift_algebraic,
    trivial, rets_algebraic _,
    trivial, ffns_algebraic,
    trivial⟩

end Cert.Proof

end
